-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_merge_defined [hPre_merge_defined : Cert.Pre_merge_defined.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_merge_defined.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_merge_defined [hPre_merge_defined : Cert.Pre_merge_defined.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_merge_defined.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_merge_defined [hKernel3Ideal : Cert.Kernel3Ideal.Facts] [hPre_merge_defined : Cert.Pre_merge_defined.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_merge_defined m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_merge_defined [hReference3Ideal : Cert.Reference3Ideal.Facts] [hPre_merge_defined : Cert.Pre_merge_defined.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_merge_defined m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v120) = v0 c
          ∧ r.2.mem ((c.tc : Thread Cert.Reference2Ideal.nD Cert.Reference2Ideal.τ).loc Cert.Reference2Ideal.main_v121) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_merge_defined [hKernel3Ideal : Cert.Kernel3Ideal.Facts] [hReference3Ideal : Cert.Reference3Ideal.Facts] [hPre_merge_defined : Cert.Pre_merge_defined.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_merge_defined m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v141) = v0 c
          ∧ r.2.mem ((c.tc : Thread Cert.Reference3Ideal.nD Cert.Reference3Ideal.τ).loc Cert.Reference3Ideal.main_v142) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_merge_defined : Cert.Pre_merge_defined.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_merge_defined (hKernel3Ideal := hKernel3Ideal) (hPre_merge_defined := hPre_merge_defined)
    ∧ quiescent_Reference3Ideal (hReference3Ideal := hReference3Ideal)
    ∧ quiescent_Reference3Ideal_pre_merge_defined (hReference3Ideal := hReference3Ideal) (hPre_merge_defined := hPre_merge_defined)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_merge_defined (hKernel3Ideal := hKernel3Ideal) (hReference3Ideal := hReference3Ideal) (hPre_merge_defined := hPre_merge_defined)
-- ==== Pre_merge_defined.lean ====
abbrev S1x16384x1024 : Shape := ⟨3, ![1, 16384, 1024]⟩
abbrev S1x16384x128 : Shape := ⟨3, ![1, 16384, 128]⟩
abbrev S1x6144 : Shape := ⟨2, ![1, 6144]⟩
abbrev S1x1024x1024 : Shape := ⟨3, ![1, 1024, 1024]⟩
abbrev S2x2x1024 : Shape := ⟨3, ![2, 2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S_ : Shape := ⟨0, ![]⟩
abbrev S1x16384x32 : Shape := ⟨3, ![1, 16384, 32]⟩
abbrev S1x16384x16 : Shape := ⟨3, ![1, 16384, 16]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  slices_S1x16384x128_S1x16384x32_0_0_0 : S1x16384x128.Slices ![0, 0, 0] S1x16384x32
  bcast_S_S1x16384x32 : S_.BroadcastsInDim S1x16384x32 (![] : Fin 0 → Fin S1x16384x32.rank)
  reducesTo_S1x16384x32_S_d0_1_2 : S1x16384x32.ReducesTo [0, 1, 2] S_
  slices_S1x16384x128_S1x16384x16_0_0_16 : S1x16384x128.Slices ![0, 0, 16] S1x16384x16
  bcast_S_S1x16384x16 : S_.BroadcastsInDim S1x16384x16 (![] : Fin 0 → Fin S1x16384x16.rank)
  reducesTo_S1x16384x16_S_d0_1_2 : S1x16384x16.ReducesTo [0, 1, 2] S_

variable [Facts]

def fn_part2 {F : FTy → Type} [FloatOps F] (main_arg6 : FVec F S1x16384x128 .f32) (main_v30 : IVec S_ 1) (main_v33 : IVec S1x16384x16 1) (main_c_11 : IVec S_ 1) : IVec S_ 1 :=
  let main_v34 : IVec S_ 1 := (fun x v => Host.reduce IntOp.andi x v reducesTo_S1x16384x16_S_d0_1_2 h_S_) main_v33 main_c_11
  let main_v35 : IVec S_ 1 := andi main_v30 main_v34
  let main_v36 : FVec F S1x16384x32 .f32 := (extractStridedSlice S1x16384x32 ![0, 0, 0] · slices_S1x16384x128_S1x16384x32_0_0_0) main_arg6
  let main_v37 : FVec F S1x16384x32 .f32 := Host.absf main_v36
  let main_cst_12 : FVec F S_ .f32 := constant S_ .f32 0x7F800000#32
  let main_v38 : FVec F S1x16384x32 .f32 := broadcastInDim S1x16384x32 ![] bcast_S_S1x16384x32 main_cst_12
  let main_v39 : IVec S1x16384x32 1 := cmpf .olt main_v37 main_v38
  let main_c_13 : IVec S_ 1 := constantI S_ 1 1#1
  let main_v40 : IVec S_ 1 := (fun x v => Host.reduce IntOp.andi x v reducesTo_S1x16384x32_S_d0_1_2 h_S_) main_v39 main_c_13
  let main_v41 : IVec S_ 1 := andi main_v35 main_v40
  let main_v42 : FVec F S1x16384x16 .f32 := (extractStridedSlice S1x16384x16 ![0, 0, 16] · slices_S1x16384x128_S1x16384x16_0_0_16) main_arg6
  let main_cst_14 : FVec F S_ .f32 := constant S_ .f32 0x00000000#32
  let main_v43 : FVec F S1x16384x16 .f32 := broadcastInDim S1x16384x16 ![] bcast_S_S1x16384x16 main_cst_14
  let main_v44 : IVec S1x16384x16 1 := cmpf .ogt main_v42 main_v43
  let main_c_15 : IVec S_ 1 := constantI S_ 1 1#1
  let main_v45 : IVec S_ 1 := (fun x v => Host.reduce IntOp.andi x v reducesTo_S1x16384x16_S_d0_1_2 h_S_) main_v44 main_c_15
  let main_v46 : IVec S_ 1 := andi main_v41 main_v45
  main_v46

def fn_part1 {F : FTy → Type} [FloatOps F] (main_arg2 : FVec F S1x16384x128 .f32) (main_arg4 : FVec F S1x16384x128 .f32) (main_arg6 : FVec F S1x16384x128 .f32) (main_v13 : IVec S_ 1) (main_v15 : FVec F S1x16384x32 .f32) (main_v16 : FVec F S1x16384x32 .f32) : IVec S_ 1 :=
  let main_v17 : IVec S1x16384x32 1 := cmpf .olt main_v15 main_v16
  let main_c_5 : IVec S_ 1 := constantI S_ 1 1#1
  let main_v18 : IVec S_ 1 := (fun x v => Host.reduce IntOp.andi x v reducesTo_S1x16384x32_S_d0_1_2 h_S_) main_v17 main_c_5
  let main_v19 : IVec S_ 1 := andi main_v13 main_v18
  let main_v20 : FVec F S1x16384x16 .f32 := (extractStridedSlice S1x16384x16 ![0, 0, 16] · slices_S1x16384x128_S1x16384x16_0_0_16) main_arg2
  let main_cst_6 : FVec F S_ .f32 := constant S_ .f32 0x00000000#32
  let main_v21 : FVec F S1x16384x16 .f32 := broadcastInDim S1x16384x16 ![] bcast_S_S1x16384x16 main_cst_6
  let main_v22 : IVec S1x16384x16 1 := cmpf .ogt main_v20 main_v21
  let main_c_7 : IVec S_ 1 := constantI S_ 1 1#1
  let main_v23 : IVec S_ 1 := (fun x v => Host.reduce IntOp.andi x v reducesTo_S1x16384x16_S_d0_1_2 h_S_) main_v22 main_c_7
  let main_v24 : IVec S_ 1 := andi main_v19 main_v23
  let main_v25 : FVec F S1x16384x32 .f32 := (extractStridedSlice S1x16384x32 ![0, 0, 0] · slices_S1x16384x128_S1x16384x32_0_0_0) main_arg4
  let main_v26 : FVec F S1x16384x32 .f32 := Host.absf main_v25
  let main_cst_8 : FVec F S_ .f32 := constant S_ .f32 0x7F800000#32
  let main_v27 : FVec F S1x16384x32 .f32 := broadcastInDim S1x16384x32 ![] bcast_S_S1x16384x32 main_cst_8
  let main_v28 : IVec S1x16384x32 1 := cmpf .olt main_v26 main_v27
  let main_c_9 : IVec S_ 1 := constantI S_ 1 1#1
  let main_v29 : IVec S_ 1 := (fun x v => Host.reduce IntOp.andi x v reducesTo_S1x16384x32_S_d0_1_2 h_S_) main_v28 main_c_9
  let main_v30 : IVec S_ 1 := andi main_v24 main_v29
  let main_v31 : FVec F S1x16384x16 .f32 := (extractStridedSlice S1x16384x16 ![0, 0, 16] · slices_S1x16384x128_S1x16384x16_0_0_16) main_arg4
  let main_cst_10 : FVec F S_ .f32 := constant S_ .f32 0x00000000#32
  let main_v32 : FVec F S1x16384x16 .f32 := broadcastInDim S1x16384x16 ![] bcast_S_S1x16384x16 main_cst_10
  let main_v33 : IVec S1x16384x16 1 := cmpf .ogt main_v31 main_v32
  let main_c_11 : IVec S_ 1 := constantI S_ 1 1#1
  fn_part2 (F := F) main_arg6 main_v30 main_v33 main_c_11

def fn {F : FTy → Type} [FloatOps F] (main_arg0 : FVec F S1x16384x1024 .f32) (main_arg1 : FVec F S1x16384x1024 .f32) (main_arg2 : FVec F S1x16384x128 .f32) (main_arg3 : FVec F S1x16384x1024 .f32) (main_arg4 : FVec F S1x16384x128 .f32) (main_arg5 : FVec F S1x16384x1024 .f32) (main_arg6 : FVec F S1x16384x128 .f32) (main_arg7 : FVec F S1x6144 .f32) (main_arg8 : FVec F S1x1024x1024 .f32) (main_arg9 : FVec F S2x2x1024 .f32) (main_arg10 : FVec F S2x1024x5632 .f32) (main_arg11 : FVec F S2x3x2816 .f32) (main_arg12 : FVec F S2x2816 .f32) (main_arg13 : FVec F S2x2816x1024 .f32) (main_arg14 : FVec F S1024 .f32) : IVec S_ 1 :=
  let main_v0 : FVec F S1x16384x1024 .f32 := Host.absf main_arg1
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x1024 .f32 := Host.absf main_arg3
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S1x16384x1024 .f32 := Host.absf main_arg5
  let main_cst_2 : FVec F S_ .f32 := constant S_ .f32 0x7F800000#32
  let main_v10 : FVec F S1x16384x1024 .f32 := broadcastInDim S1x16384x1024 ![] bcast_S_S1x16384x1024 main_cst_2
  let main_v11 : IVec S1x16384x1024 1 := cmpf .olt main_v9 main_v10
  let main_c_3 : IVec S_ 1 := constantI S_ 1 1#1
  let main_v12 : IVec S_ 1 := (fun x v => Host.reduce IntOp.andi x v reducesTo_S1x16384x1024_S_d0_1_2 h_S_) main_v11 main_c_3
  let main_v13 : IVec S_ 1 := andi main_v8 main_v12
  let main_v14 : FVec F S1x16384x32 .f32 := (extractStridedSlice S1x16384x32 ![0, 0, 0] · slices_S1x16384x128_S1x16384x32_0_0_0) main_arg2
  let main_v15 : FVec F S1x16384x32 .f32 := Host.absf main_v14
  let main_cst_4 : FVec F S_ .f32 := constant S_ .f32 0x7F800000#32
  let main_v16 : FVec F S1x16384x32 .f32 := broadcastInDim S1x16384x32 ![] bcast_S_S1x16384x32 main_cst_4
  fn_part1 (F := F) main_arg2 main_arg4 main_arg6 main_v13 main_v15 main_v16
-- ==== Kernel2.lean ====
abbrev S1x16384x1024 : Shape := ⟨3, ![1, 16384, 1024]⟩
abbrev S1x16384x512 : Shape := ⟨3, ![1, 16384, 512]⟩
abbrev S1x6144 : Shape := ⟨2, ![1, 6144]⟩
abbrev S1x512 : Shape := ⟨2, ![1, 512]⟩
abbrev S1x512x512 : Shape := ⟨3, ![1, 512, 512]⟩
abbrev S1x1024x1024 : Shape := ⟨3, ![1, 1024, 1024]⟩
abbrev S2x2x1024 : Shape := ⟨3, ![2, 2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S16384x512 : Shape := ⟨2, ![16384, 512]⟩
abbrev S1024x16x4x128 : Shape := ⟨4, ![1024, 16, 4, 128]⟩
abbrev S1024x4x16x128 : Shape := ⟨4, ![1024, 4, 16, 128]⟩
abbrev S1024x8192 : Shape := ⟨2, ![1024, 8192]⟩
abbrev S16384x1024 : Shape := ⟨2, ![16384, 1024]⟩
abbrev S512 : Shape := ⟨1, ![512]⟩
abbrev S512x512 : Shape := ⟨2, ![512, 512]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S2x1x2816 : Shape := ⟨3, ![2, 1, 2816]⟩
abbrev S512x1024 : Shape := ⟨2, ![512, 1024]⟩
abbrev S32x8192 : Shape := ⟨2, ![32, 8192]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S8x2816 : Shape := ⟨2, ![8, 2816]⟩
abbrev S4x512x128 : Shape := ⟨3, ![4, 512, 128]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 39
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x6144, .f32⟩
  | .hbm, ⟨5, _⟩ => ⟨S1x512, .f32⟩
  | .hbm, ⟨6, _⟩ => ⟨S1x512x512, .f32⟩
  | .hbm, ⟨7, _⟩ => ⟨S1x512, .f32⟩
  | .hbm, ⟨8, _⟩ => ⟨S1x1024x1024, .f32⟩
  | .hbm, ⟨9, _⟩ => ⟨S2x2x1024, .f32⟩
  | .hbm, ⟨10, _⟩ => ⟨S2x1024x5632, .f32⟩
  | .hbm, ⟨11, _⟩ => ⟨S2x3x2816, .f32⟩
  | .hbm, ⟨12, _⟩ => ⟨S2x2816, .f32⟩
  | .hbm, ⟨13, _⟩ => ⟨S2x2816x1024, .f32⟩
  | .hbm, ⟨14, _⟩ => ⟨S16384x512, .f32⟩
  | .hbm, ⟨15, _⟩ => ⟨S1024x16x4x128, .f32⟩
  | .hbm, ⟨16, _⟩ => ⟨S1024x4x16x128, .f32⟩
  | .hbm, ⟨17, _⟩ => ⟨S1024x8192, .f32⟩
  | .hbm, ⟨18, _⟩ => ⟨S1024x8192, .bf16⟩
  | .hbm, ⟨19, _⟩ => ⟨S16384x1024, .f32⟩
  | .hbm, ⟨20, _⟩ => ⟨S16384x512, .f32⟩
  | .hbm, ⟨21, _⟩ => ⟨S16384x512, .f32⟩
  | .hbm, ⟨22, _⟩ => ⟨S16384x512, .bf16⟩
  | .hbm, ⟨23, _⟩ => ⟨S512, .f32⟩
  | .hbm, ⟨24, _⟩ => ⟨S1x512, .f32⟩
  | .hbm, ⟨25, _⟩ => ⟨S512x512, .f32⟩
  | .hbm, ⟨26, _⟩ => ⟨S512x512, .bf16⟩
  | .hbm, ⟨27, _⟩ => ⟨S512, .f32⟩
  | .hbm, ⟨28, _⟩ => ⟨S1x512, .f32⟩
  | .hbm, ⟨29, _⟩ => ⟨S1024x1024, .f32⟩
  | .hbm, ⟨30, _⟩ => ⟨S1024x1024, .bf16⟩
  | .hbm, ⟨31, _⟩ => ⟨S1x1x1024, .f32⟩
  | .hbm, ⟨32, _⟩ => ⟨S1024, .f32⟩
  | .hbm, ⟨33, _⟩ => ⟨S1x1024, .f32⟩
  | .hbm, ⟨34, _⟩ => ⟨S2x1024x5632, .bf16⟩
  | .hbm, ⟨35, _⟩ => ⟨S2x1x2816, .f32⟩
  | .hbm, ⟨36, _⟩ => ⟨S2x2816x1024, .bf16⟩
  | .hbm, ⟨37, _⟩ => ⟨S16384x1024, .f32⟩
  | .hbm, ⟨38, _⟩ => ⟨S2x2816, .f32⟩
  | .local _ .vmem, ⟨0, _⟩ => ⟨S512x1024, .f32⟩
  | .local _ .vmem, ⟨1, _⟩ => ⟨S512x1024, .f32⟩
  | .local _ .vmem, ⟨2, _⟩ => ⟨S32x8192, .bf16⟩
  | .local _ .vmem, ⟨3, _⟩ => ⟨S32x8192, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x6144, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1024x1024, .bf16⟩
  | .local _ .vmem, ⟨13, _⟩ => ⟨S1x6144, .f32⟩
  | .local _ .vmem, ⟨14, _⟩ => ⟨S1x1024, .f32⟩
  | .local _ .vmem, ⟨15, _⟩ => ⟨S1x1024x5632, .bf16⟩
  | .local _ .vmem, ⟨16, _⟩ => ⟨S1x3x2816, .f32⟩
  | .local _ .vmem, ⟨17, _⟩ => ⟨S1x1x2816, .f32⟩
  | .local _ .vmem, ⟨18, _⟩ => ⟨S1x2816x1024, .bf16⟩
  | .local _ .vmem, ⟨19, _⟩ => ⟨S512x1024, .f32⟩
  | .local _ .vmem, ⟨20, _⟩ => ⟨S512x1024, .f32⟩
  | .local _ .vmem, ⟨21, _⟩ => ⟨S2x2816, .f32⟩
  | .local _ .vmem, ⟨22, _⟩ => ⟨S8x2816, .f32⟩
  | .local _ .vmem, ⟨23, _⟩ => ⟨S4x512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S1x16384x1024 : Shape := ⟨3, ![1, 16384, 1024]⟩
abbrev S1x16384x512 : Shape := ⟨3, ![1, 16384, 512]⟩
abbrev S1x6144 : Shape := ⟨2, ![1, 6144]⟩
abbrev S1x512 : Shape := ⟨2, ![1, 512]⟩
abbrev S1x512x512 : Shape := ⟨3, ![1, 512, 512]⟩
abbrev S1x1024x1024 : Shape := ⟨3, ![1, 1024, 1024]⟩
abbrev S2x2x1024 : Shape := ⟨3, ![2, 2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x1x6144 : Shape := ⟨3, ![1, 1, 6144]⟩
abbrev S1x1x1024 : Shape := ⟨3, ![1, 1, 1024]⟩
abbrev S512 : Shape := ⟨1, ![512]⟩
abbrev S1x1x512 : Shape := ⟨3, ![1, 1, 512]⟩
abbrev S_ : Shape := ⟨0, ![]⟩
abbrev S512x512 : Shape := ⟨2, ![512, 512]⟩
abbrev S1024x1024 : Shape := ⟨2, ![1024, 1024]⟩
abbrev S1024 : Shape := ⟨1, ![1024]⟩
abbrev S1x16384 : Shape := ⟨2, ![1, 16384]⟩
abbrev S1x16384x1 : Shape := ⟨3, ![1, 16384, 1]⟩
abbrev S1x2x2816 : Shape := ⟨3, ![1, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x16384x5632 : Shape := ⟨3, ![1, 16384, 5632]⟩
abbrev S1x16384x2816 : Shape := ⟨3, ![1, 16384, 2816]⟩
abbrev S1x16386x2816 : Shape := ⟨3, ![1, 16386, 2816]⟩
abbrev S1x1x2816 : Shape := ⟨3, ![1, 1, 2816]⟩
abbrev S16384x1024 : Shape := ⟨2, ![16384, 1024]⟩

abbrev nBuf : Space → Nat
  | .hbm => 151
  | .vmem => 0
  | .smem => 0
  | _ => 0

abbrev hbmTy0_0 (i : Nat) : BufTy := match i % 128 with
  | 0 => ⟨S1x16384x1024, .f32⟩
  | 1 => ⟨S1x16384x512, .f32⟩
  | 2 => ⟨S1x16384x512, .f32⟩
  | 3 => ⟨S1x16384x512, .f32⟩
  | 4 => ⟨S1x6144, .f32⟩
  | 5 => ⟨S1x512, .f32⟩
  | 6 => ⟨S1x512x512, .f32⟩
  | 7 => ⟨S1x512, .f32⟩
  | 8 => ⟨S1x1024x1024, .f32⟩
  | 9 => ⟨S2x2x1024, .f32⟩
  | 10 => ⟨S2x1024x5632, .f32⟩
  | 11 => ⟨S2x3x2816, .f32⟩
  | 12 => ⟨S2x2816, .f32⟩
  | 13 => ⟨S2x2816x1024, .f32⟩
  | 14 => ⟨S1x1x6144, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S512, .f32⟩
  | 22 => ⟨S1x1x512, .f32⟩
  | 23 => ⟨S1x16384x512, .f32⟩
  | 24 => ⟨S1x16384x512, .f32⟩
  | 25 => ⟨S1x16384x512, .f32⟩
  | 26 => ⟨S1x16384x512, .f32⟩
  | 27 => ⟨S1x16384x512, .f32⟩
  | 28 => ⟨S_, .f32⟩
  | 29 => ⟨S1x16384x512, .f32⟩
  | 30 => ⟨S1x16384x512, .f32⟩
  | 31 => ⟨S1x16384x512, .f32⟩
  | 32 => ⟨S_, .f32⟩
  | 33 => ⟨S1x16384x512, .f32⟩
  | 34 => ⟨S1x16384x512, .f32⟩
  | 35 => ⟨S1x16384x512, .f32⟩
  | 36 => ⟨S_, .f32⟩
  | 37 => ⟨S1x16384x512, .f32⟩
  | 38 => ⟨S1x16384x512, .f32⟩
  | 39 => ⟨S_, .f32⟩
  | 40 => ⟨S1x16384x512, .f32⟩
  | 41 => ⟨S1x16384x512, .f32⟩
  | 42 => ⟨S1x16384x512, .f32⟩
  | 43 => ⟨S512x512, .f32⟩
  | 44 => ⟨S1x16384x512, .f32⟩
  | 45 => ⟨S512, .f32⟩
  | 46 => ⟨S1x1x512, .f32⟩
  | 47 => ⟨S1x16384x512, .f32⟩
  | 48 => ⟨S1x16384x512, .f32⟩
  | 49 => ⟨S1x16384x512, .f32⟩
  | 50 => ⟨S1x16384x512, .f32⟩
  | 51 => ⟨S_, .f32⟩
  | 52 => ⟨S1x16384x512, .f32⟩
  | 53 => ⟨S1x16384x512, .f32⟩
  | 54 => ⟨S_, .f32⟩
  | 55 => ⟨S1x16384x512, .f32⟩
  | 56 => ⟨S1x16384x512, .f32⟩
  | 57 => ⟨S1x16384x512, .f32⟩
  | 58 => ⟨S1x16384x1024, .f32⟩
  | 59 => ⟨S1024x1024, .f32⟩
  | 60 => ⟨S1x16384x1024, .f32⟩
  | 61 => ⟨S1x16384x1024, .f32⟩
  | 62 => ⟨S1x16384x1024, .f32⟩
  | 63 => ⟨S1x16384x1024, .f32⟩
  | 64 => ⟨S1x1x1024, .f32⟩
  | 65 => ⟨S1024, .f32⟩
  | 66 => ⟨S1x16384x1024, .f32⟩
  | 67 => ⟨S_, .f32⟩
  | 68 => ⟨S1x16384, .f32⟩
  | 69 => ⟨S1x16384x1, .f32⟩
  | 70 => ⟨S_, .f32⟩
  | 71 => ⟨S1x16384x1, .f32⟩
  | 72 => ⟨S1x16384x1, .f32⟩
  | 73 => ⟨S_, .f32⟩
  | 74 => ⟨S1x16384x1, .f32⟩
  | 75 => ⟨S1x16384x1, .f32⟩
  | 76 => ⟨S1x16384x1, .f32⟩
  | 77 => ⟨S1x16384x1024, .f32⟩
  | 78 => ⟨S1x16384x1024, .f32⟩
  | 79 => ⟨S1x1x1024, .f32⟩
  | 80 => ⟨S1x16384x1024, .f32⟩
  | 81 => ⟨S1x16384x1024, .f32⟩
  | 82 => ⟨S_, .f32⟩
  | 83 => ⟨S1x1x1024, .f32⟩
  | 84 => ⟨S1x1x1024, .f32⟩
  | 85 => ⟨S1x16384x1024, .f32⟩
  | 86 => ⟨S1x16384x1024, .f32⟩
  | 87 => ⟨S1x16384x1024, .f32⟩
  | 88 => ⟨S1x16384x1024, .f32⟩
  | 89 => ⟨S_, .f32⟩
  | 90 => ⟨S1x2x2816, .f32⟩
  | 91 => ⟨S1x1024x5632, .f32⟩
  | 92 => ⟨S1024x5632, .f32⟩
  | 93 => ⟨S1x3x2816, .f32⟩
  | 94 => ⟨S3x2816, .f32⟩
  | 95 => ⟨S1x2816, .f32⟩
  | 96 => ⟨S2816, .f32⟩
  | 97 => ⟨S1x2816x1024, .f32⟩
  | 98 => ⟨S2816x1024, .f32⟩
  | 99 => ⟨S1x16384x5632, .f32⟩
  | 100 => ⟨S1x16384x2816, .f32⟩
  | 101 => ⟨S1x16384x2816, .f32⟩
  | 102 => ⟨S1x16386x2816, .f32⟩
  | 103 => ⟨S1x2816, .f32⟩
  | 104 => ⟨S2816, .f32⟩
  | 105 => ⟨S1x16384x2816, .f32⟩
  | 106 => ⟨S1x1x2816, .f32⟩
  | 107 => ⟨S1x16384x2816, .f32⟩
  | 108 => ⟨S1x16384x2816, .f32⟩
  | 109 => ⟨S1x1x2816, .f32⟩
  | 110 => ⟨S1x16384x2816, .f32⟩
  | 111 => ⟨S1x16384x2816, .f32⟩
  | 112 => ⟨S1x2816, .f32⟩
  | 113 => ⟨S2816, .f32⟩
  | 114 => ⟨S1x16384x2816, .f32⟩
  | 115 => ⟨S1x1x2816, .f32⟩
  | 116 => ⟨S1x16384x2816, .f32⟩
  | 117 => ⟨S1x16384x2816, .f32⟩
  | 118 => ⟨S1x16384x2816, .f32⟩
  | 119 => ⟨S1x2816, .f32⟩
  | 120 => ⟨S2816, .f32⟩
  | 121 => ⟨S1x16384x2816, .f32⟩
  | 122 => ⟨S1x1x2816, .f32⟩
  | 123 => ⟨S1x16384x2816, .f32⟩
  | 124 => ⟨S1x16384x2816, .f32⟩
  | 125 => ⟨S1x16384x2816, .f32⟩
  | 126 => ⟨S1x16384x2816, .f32⟩
  | 127 => ⟨S1x16384x2816, .f32⟩
  | _ => ⟨S1x16384x1024, .f32⟩

abbrev hbmTy0_1 (i : Nat) : BufTy := match i % 128 with
  | 0 => ⟨S_, .f32⟩
  | 1 => ⟨S1x16384x2816, .f32⟩
  | 2 => ⟨S1x16384x2816, .f32⟩
  | 3 => ⟨S1x16384x2816, .f32⟩
  | 4 => ⟨S_, .f32⟩
  | 5 => ⟨S1x16384x2816, .f32⟩
  | 6 => ⟨S1x16384x2816, .f32⟩
  | 7 => ⟨S1x16384x2816, .f32⟩
  | 8 => ⟨S_, .f32⟩
  | 9 => ⟨S1x16384x2816, .f32⟩
  | 10 => ⟨S1x16384x2816, .f32⟩
  | 11 => ⟨S_, .f32⟩
  | 12 => ⟨S1x16384x2816, .f32⟩
  | 13 => ⟨S1x16384x2816, .f32⟩
  | 14 => ⟨S1x16384x2816, .f32⟩
  | 15 => ⟨S1x16384x2816, .f32⟩
  | 16 => ⟨S1x16384x1024, .f32⟩
  | 17 => ⟨S1x2x2816, .f32⟩
  | 18 => ⟨S1x16384x1024, .f32⟩
  | 19 => ⟨S1x16384x1024, .f32⟩
  | 20 => ⟨S1x16384x1024, .f32⟩
  | 21 => ⟨S16384x1024, .f32⟩
  | 22 => ⟨S2x2816, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_10 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_11 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_12 : Ref sig .tc := ⟨.hbm, 136, rfl⟩
abbrev main_v109 : Ref sig .tc := ⟨.hbm, 137, rfl⟩
abbrev main_v110 : Ref sig .tc := ⟨.hbm, 138, rfl⟩
abbrev main_cst_13 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x16384x128 : Shape := ⟨3, ![1, 16384, 128]⟩
abbrev S1x6144 : Shape := ⟨2, ![1, 6144]⟩
abbrev S1x1024x1024 : Shape := ⟨3, ![1, 1024, 1024]⟩
abbrev S2x2x1024 : Shape := ⟨3, ![2, 2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S16384x1024 : Shape := ⟨2, ![16384, 1024]⟩
abbrev S1024x16x1024 : Shape := ⟨3, ![1024, 16, 1024]⟩
abbrev S16x1024x1024 : Shape := ⟨3, ![16, 1024, 1024]⟩
abbrev S16384x128 : Shape := ⟨2, ![16384, 128]⟩
abbrev S1024x16x128 : Shape := ⟨3, ![1024, 16, 128]⟩
abbrev S16x1024x128 : Shape := ⟨3, ![16, 1024, 128]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S256x1024 : Shape := ⟨2, ![256, 1024]⟩
abbrev S1x1x1024 : Shape := ⟨3, ![1, 1, 1024]⟩
abbrev S2x1x2816 : Shape := ⟨3, ![2, 1, 2816]⟩
abbrev S512x1024 : Shape := ⟨2, ![512, 1024]⟩
abbrev S1x512x1024 : Shape := ⟨3, ![1, 512, 1024]⟩
abbrev S1x512x128 : Shape := ⟨3, ![1, 512, 128]⟩
abbrev S16x32x1024 : Shape := ⟨3, ![16, 32, 1024]⟩
abbrev S16x32x128 : Shape := ⟨3, ![16, 32, 128]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S8x2816 : Shape := ⟨2, ![8, 2816]⟩
abbrev S8x512x128 : Shape := ⟨3, ![8, 512, 128]⟩
abbrev S512x128 : Shape := ⟨2, ![512, 128]⟩
abbrev S1x32x128 : Shape := ⟨3, ![1, 32, 128]⟩
abbrev S32x128 : Shape := ⟨2, ![32, 128]⟩
abbrev S512x256 : Shape := ⟨2, ![512, 256]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 69
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x128, .f32⟩
  | .hbm, ⟨3, _⟩ => ⟨S1x16384x1024, .f32⟩
  | .hbm, ⟨4, _⟩ => ⟨S1x16384x128, .f32⟩
  | .hbm, ⟨5, _⟩ => ⟨S1x16384x1024, .f32⟩
  | .hbm, ⟨6, _⟩ => ⟨S1x16384x128, .f32⟩
  | .hbm, ⟨7, _⟩ => ⟨S1x6144, .f32⟩
  | .hbm, ⟨8, _⟩ => ⟨S1x1024x1024, .f32⟩
  | .hbm, ⟨9, _⟩ => ⟨S2x2x1024, .f32⟩
  | .hbm, ⟨10, _⟩ => ⟨S2x1024x5632, .f32⟩
  | .hbm, ⟨11, _⟩ => ⟨S2x3x2816, .f32⟩
  | .hbm, ⟨12, _⟩ => ⟨S2x2816, .f32⟩
  | .hbm, ⟨13, _⟩ => ⟨S2x2816x1024, .f32⟩
  | .hbm, ⟨14, _⟩ => ⟨S1024, .f32⟩
  | .hbm, ⟨15, _⟩ => ⟨S1x16384x1024, .bf16⟩
  | .hbm, ⟨16, _⟩ => ⟨S1x16384x1024, .bf16⟩
  | .hbm, ⟨17, _⟩ => ⟨S16384x1024, .bf16⟩
  | .hbm, ⟨18, _⟩ => ⟨S1024x16x1024, .bf16⟩
  | .hbm, ⟨19, _⟩ => ⟨S16x1024x1024, .bf16⟩
  | .hbm, ⟨20, _⟩ => ⟨S16384x128, .f32⟩
  | .hbm, ⟨21, _⟩ => ⟨S1024x16x128, .f32⟩
  | .hbm, ⟨22, _⟩ => ⟨S16x1024x128, .f32⟩
  | .hbm, ⟨23, _⟩ => ⟨S1x16384x1024, .bf16⟩
  | .hbm, ⟨24, _⟩ => ⟨S16384x1024, .bf16⟩
  | .hbm, ⟨25, _⟩ => ⟨S1024x16x1024, .bf16⟩
  | .hbm, ⟨26, _⟩ => ⟨S16x1024x1024, .bf16⟩
  | .hbm, ⟨27, _⟩ => ⟨S16384x128, .f32⟩
  | .hbm, ⟨28, _⟩ => ⟨S1024x16x128, .f32⟩
  | .hbm, ⟨29, _⟩ => ⟨S16x1024x128, .f32⟩
  | .hbm, ⟨30, _⟩ => ⟨S16384x1024, .f32⟩
  | .hbm, ⟨31, _⟩ => ⟨S1024x1024, .f32⟩
  | .hbm, ⟨32, _⟩ => ⟨S1024x1024, .bf16⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S128, .i32⟩
  | .hbm, ⟨53, _⟩ => ⟨S128x1, .i32⟩
  | .hbm, ⟨54, _⟩ => ⟨S1x1024, .i32⟩
  | .hbm, ⟨55, _⟩ => ⟨S128x1024, .i32⟩
  | .hbm, ⟨56, _⟩ => ⟨S128x1024, .i32⟩
  | .hbm, ⟨57, _⟩ => ⟨S128x1024, .i1⟩
  | .hbm, ⟨58, _⟩ => ⟨S128x1024, .bf16⟩
  | .hbm, ⟨59, _⟩ => ⟨S256x1024, .bf16⟩
  | .hbm, ⟨60, _⟩ => ⟨S1x1x1024, .f32⟩
  | .hbm, ⟨61, _⟩ => ⟨S1024, .f32⟩
  | .hbm, ⟨62, _⟩ => ⟨S1x1024, .f32⟩
  | .hbm, ⟨63, _⟩ => ⟨S2x1024x5632, .bf16⟩
  | .hbm, ⟨64, _⟩ => ⟨S2x1x2816, .f32⟩
  | .hbm, ⟨65, _⟩ => ⟨S2x2816x1024, .bf16⟩
  | .hbm, ⟨66, _⟩ => ⟨S1x1024, .f32⟩
  | .hbm, ⟨67, _⟩ => ⟨S16384x1024, .f32⟩
  | .hbm, ⟨68, _⟩ => ⟨S2x2816, .f32⟩
  | .local _ .vmem, ⟨0, _⟩ => ⟨S512x1024, .f32⟩
  | .local _ .vmem, ⟨1, _⟩ => ⟨S512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S16x32x1024, .bf16⟩
  | .local _ .vmem, ⟨7, _⟩ => ⟨S16x32x1024, .bf16⟩
  | .local _ .vmem, ⟨8, _⟩ => ⟨S16x32x128, .f32⟩
  | .local _ .vmem, ⟨9, _⟩ => ⟨S16x32x128, .f32⟩
  | .local _ .vmem, ⟨10, _⟩ => ⟨S16x32x1024, .bf16⟩
  | .local _ .vmem, ⟨11, _⟩ => ⟨S16x32x1024, .bf16⟩
  | .local _ .vmem, ⟨12, _⟩ => ⟨S16x32x128, .f32⟩
  | .local _ .vmem, ⟨13, _⟩ => ⟨S16x32x128, .f32⟩
  | .local _ .vmem, ⟨14, _⟩ => ⟨S1x6144, .f32⟩
  | .local _ .vmem, ⟨15, _⟩ => ⟨S1024x1024, .bf16⟩
  | .local _ .vmem, ⟨16, _⟩ => ⟨S256x1024, .bf16⟩
  | .local _ .vmem, ⟨17, _⟩ => ⟨S1x6144, .f32⟩
  | .local _ .vmem, ⟨18, _⟩ => ⟨S1x1024, .f32⟩
  | .local _ .vmem, ⟨19, _⟩ => ⟨S1x1024x5632, .bf16⟩
  | .local _ .vmem, ⟨20, _⟩ => ⟨S1x3x2816, .f32⟩
  | .local _ .vmem, ⟨21, _⟩ => ⟨S1x1x2816, .f32⟩
  | .local _ .vmem, ⟨22, _⟩ => ⟨S1x2816x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S2x2816, .f32⟩
  | .local _ .vmem, ⟨27, _⟩ => ⟨S8x2816, .f32⟩
  | .local _ .vmem, ⟨28, _⟩ => ⟨S8x512x128, .f32⟩
  | .local _ .vmem, ⟨29, _⟩ => ⟨S8x512x128, .f32⟩
  | .local _ .vmem, ⟨30, _⟩ => ⟨S512x128, .f32⟩
  | .local _ .vmem, ⟨31, _⟩ => ⟨S512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35_0 : Ref sig .tc := ⟨.hbm, 67, rfl⟩
abbrev main_v35_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S2x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S1x16384x1024 : Shape := ⟨3, ![1, 16384, 1024]⟩
abbrev S1x16384x128 : Shape := ⟨3, ![1, 16384, 128]⟩
abbrev S1x6144 : Shape := ⟨2, ![1, 6144]⟩
abbrev S1x1024x1024 : Shape := ⟨3, ![1, 1024, 1024]⟩
abbrev S2x2x1024 : Shape := ⟨3, ![2, 2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1x6144 : Shape := ⟨3, ![1, 1, 6144]⟩
abbrev S1x1x1024 : Shape := ⟨3, ![1, 1, 1024]⟩
abbrev S1x16384x16x64 : Shape := ⟨4, ![1, 16384, 16, 64]⟩
abbrev S1x16384x16 : Shape := ⟨3, ![1, 16384, 16]⟩
abbrev S_ : Shape := ⟨0, ![]⟩
abbrev S1x16384x16x1 : Shape := ⟨4, ![1, 16384, 16, 1]⟩
abbrev S1024x1024 : Shape := ⟨2, ![1024, 1024]⟩
abbrev S1x16384 : Shape := ⟨2, ![1, 16384]⟩
abbrev S1x16384x1 : Shape := ⟨3, ![1, 16384, 1]⟩
abbrev S1x2x2816 : Shape := ⟨3, ![1, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x16384x5632 : Shape := ⟨3, ![1, 16384, 5632]⟩
abbrev S1x16384x2816 : Shape := ⟨3, ![1, 16384, 2816]⟩
abbrev S1x16386x2816 : Shape := ⟨3, ![1, 16386, 2816]⟩
abbrev S1x1x2816 : Shape := ⟨3, ![1, 1, 2816]⟩
abbrev S16384x1024 : Shape := ⟨2, ![16384, 1024]⟩

abbrev nBuf : Space → Nat
  | .hbm => 173
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1x16384x128, .f32⟩
  | 3 => ⟨S1x16384x1024, .f32⟩
  | 4 => ⟨S1x16384x128, .f32⟩
  | 5 => ⟨S1x16384x1024, .f32⟩
  | 6 => ⟨S1x16384x128, .f32⟩
  | 7 => ⟨S1x6144, .f32⟩
  | 8 => ⟨S1x1024x1024, .f32⟩
  | 9 => ⟨S2x2x1024, .f32⟩
  | 10 => ⟨S2x1024x5632, .f32⟩
  | 11 => ⟨S2x3x2816, .f32⟩
  | 12 => ⟨S2x2816, .f32⟩
  | 13 => ⟨S2x2816x1024, .f32⟩
  | 14 => ⟨S1024, .f32⟩
  | 15 => ⟨S1x1x6144, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x1x1024, .f32⟩
  | 22 => ⟨S1x16384x16x64, .f32⟩
  | 23 => ⟨S1x16384x16, .f32⟩
  | 24 => ⟨S1x16384x16, .f32⟩
  | 25 => ⟨S1x16384x16x64, .f32⟩
  | 26 => ⟨S1x16384x16, .f32⟩
  | 27 => ⟨S1x16384x16, .f32⟩
  | 28 => ⟨S1x16384x16x64, .f32⟩
  | 29 => ⟨S1x16384x16, .f32⟩
  | 30 => ⟨S1x16384x16, .f32⟩
  | 31 => ⟨S1x16384x16, .f32⟩
  | 32 => ⟨S1x16384x16, .f32⟩
  | 33 => ⟨S1x16384x16, .f32⟩
  | 34 => ⟨S_, .f32⟩
  | 35 => ⟨S1x16384x16, .f32⟩
  | 36 => ⟨S1x16384x16, .f32⟩
  | 37 => ⟨S1x16384x16, .f32⟩
  | 38 => ⟨S1x16384x16, .f32⟩
  | 39 => ⟨S_, .f32⟩
  | 40 => ⟨S1x16384x16, .f32⟩
  | 41 => ⟨S1x16384x16, .f32⟩
  | 42 => ⟨S1x16384x16, .f32⟩
  | 43 => ⟨S1x16384x16, .f32⟩
  | 44 => ⟨S_, .f32⟩
  | 45 => ⟨S1x16384x16, .f32⟩
  | 46 => ⟨S1x16384x16, .f32⟩
  | 47 => ⟨S1x16384x16, .f32⟩
  | 48 => ⟨S1x16384x16x1, .f32⟩
  | 49 => ⟨S1x16384x16x64, .f32⟩
  | 50 => ⟨S1x16384x16x64, .f32⟩
  | 51 => ⟨S1x16384x16x1, .f32⟩
  | 52 => ⟨S1x16384x16x64, .f32⟩
  | 53 => ⟨S1x16384x16x64, .f32⟩
  | 54 => ⟨S1x16384x16x64, .f32⟩
  | 55 => ⟨S1x16384x16x1, .f32⟩
  | 56 => ⟨S1x16384x16x64, .f32⟩
  | 57 => ⟨S1x16384x16x64, .f32⟩
  | 58 => ⟨S1x16384x16x64, .f32⟩
  | 59 => ⟨S1x16384x16, .f32⟩
  | 60 => ⟨S1x16384x16, .f32⟩
  | 61 => ⟨S1x16384x16x1, .f32⟩
  | 62 => ⟨S1x16384x16x64, .f32⟩
  | 63 => ⟨S1x16384x16x64, .f32⟩
  | 64 => ⟨S1x16384x1024, .f32⟩
  | 65 => ⟨S1024x1024, .f32⟩
  | 66 => ⟨S1x16384x1024, .f32⟩
  | 67 => ⟨S1x16384x1024, .f32⟩
  | 68 => ⟨S1x16384x1024, .f32⟩
  | 69 => ⟨S1x16384x1024, .f32⟩
  | 70 => ⟨S1x1x1024, .f32⟩
  | 71 => ⟨S1024, .f32⟩
  | 72 => ⟨S1x16384x1024, .f32⟩
  | 73 => ⟨S_, .f32⟩
  | 74 => ⟨S1x16384, .f32⟩
  | 75 => ⟨S1x16384x1, .f32⟩
  | 76 => ⟨S_, .f32⟩
  | 77 => ⟨S1x16384x1, .f32⟩
  | 78 => ⟨S1x16384x1, .f32⟩
  | 79 => ⟨S_, .f32⟩
  | 80 => ⟨S1x16384x1, .f32⟩
  | 81 => ⟨S1x16384x1, .f32⟩
  | 82 => ⟨S1x16384x1, .f32⟩
  | 83 => ⟨S1x16384x1024, .f32⟩
  | 84 => ⟨S1x16384x1024, .f32⟩
  | 85 => ⟨S1x1x1024, .f32⟩
  | 86 => ⟨S1x16384x1024, .f32⟩
  | 87 => ⟨S1x16384x1024, .f32⟩
  | 88 => ⟨S_, .f32⟩
  | 89 => ⟨S1x1x1024, .f32⟩
  | 90 => ⟨S1x1x1024, .f32⟩
  | 91 => ⟨S1x16384x1024, .f32⟩
  | 92 => ⟨S1x16384x1024, .f32⟩
  | 93 => ⟨S1x16384x1024, .f32⟩
  | 94 => ⟨S1x16384x1024, .f32⟩
  | 95 => ⟨S_, .f32⟩
  | 96 => ⟨S1x2x2816, .f32⟩
  | 97 => ⟨S1x1024x5632, .f32⟩
  | 98 => ⟨S1024x5632, .f32⟩
  | 99 => ⟨S1x3x2816, .f32⟩
  | 100 => ⟨S3x2816, .f32⟩
  | 101 => ⟨S1x2816, .f32⟩
  | 102 => ⟨S2816, .f32⟩
  | 103 => ⟨S1x2816x1024, .f32⟩
  | 104 => ⟨S2816x1024, .f32⟩
  | 105 => ⟨S1x16384x5632, .f32⟩
  | 106 => ⟨S1x16384x2816, .f32⟩
  | 107 => ⟨S1x16384x2816, .f32⟩
  | 108 => ⟨S1x16386x2816, .f32⟩
  | 109 => ⟨S1x2816, .f32⟩
  | 110 => ⟨S2816, .f32⟩
  | 111 => ⟨S1x16384x2816, .f32⟩
  | 112 => ⟨S1x1x2816, .f32⟩
  | 113 => ⟨S1x16384x2816, .f32⟩
  | 114 => ⟨S1x16384x2816, .f32⟩
  | 115 => ⟨S1x1x2816, .f32⟩
  | 116 => ⟨S1x16384x2816, .f32⟩
  | 117 => ⟨S1x16384x2816, .f32⟩
  | 118 => ⟨S1x2816, .f32⟩
  | 119 => ⟨S2816, .f32⟩
  | 120 => ⟨S1x16384x2816, .f32⟩
  | 121 => ⟨S1x1x2816, .f32⟩
  | 122 => ⟨S1x16384x2816, .f32⟩
  | 123 => ⟨S1x16384x2816, .f32⟩
  | 124 => ⟨S1x16384x2816, .f32⟩
  | 125 => ⟨S1x2816, .f32⟩
  | 126 => ⟨S2816, .f32⟩
  | 127 => ⟨S1x16384x2816, .f32⟩
  | _ => ⟨S1x16384x1024, .f32⟩

abbrev hbmTy0_1 (i : Nat) : BufTy := match i % 128 with
  | 0 => ⟨S1x1x2816, .f32⟩
  | 1 => ⟨S1x16384x2816, .f32⟩
  | 2 => ⟨S1x16384x2816, .f32⟩
  | 3 => ⟨S1x16384x2816, .f32⟩
  | 4 => ⟨S1x16384x2816, .f32⟩
  | 5 => ⟨S1x16384x2816, .f32⟩
  | 6 => ⟨S_, .f32⟩
  | 7 => ⟨S1x16384x2816, .f32⟩
  | 8 => ⟨S1x16384x2816, .f32⟩
  | 9 => ⟨S1x16384x2816, .f32⟩
  | 10 => ⟨S_, .f32⟩
  | 11 => ⟨S1x16384x2816, .f32⟩
  | 12 => ⟨S1x16384x2816, .f32⟩
  | 13 => ⟨S1x16384x2816, .f32⟩
  | 14 => ⟨S_, .f32⟩
  | 15 => ⟨S1x16384x2816, .f32⟩
  | 16 => ⟨S1x16384x2816, .f32⟩
  | 17 => ⟨S_, .f32⟩
  | 18 => ⟨S1x16384x2816, .f32⟩
  | 19 => ⟨S1x16384x2816, .f32⟩
  | 20 => ⟨S1x16384x2816, .f32⟩
  | 21 => ⟨S1x16384x2816, .f32⟩
  | 22 => ⟨S1x16384x1024, .f32⟩
  | 23 => ⟨S1x2x2816, .f32⟩
  | 24 => ⟨S1x16384x1024, .f32⟩
  | 25 => ⟨S1x16384x1024, .f32⟩
  | 26 => ⟨S1x16384x1024, .f32⟩
  | 27 => ⟨S1x16384x1024, .f32⟩
  | 28 => ⟨S_, .f32⟩
  | 29 => ⟨S1x16384, .f32⟩
  | 30 => ⟨S1x16384x1, .f32⟩
  | 31 => ⟨S_, .f32⟩
  | 32 => ⟨S1x16384x1, .f32⟩
  | 33 => ⟨S1x16384x1, .f32⟩
  | 34 => ⟨S_, .f32⟩
  | 35 => ⟨S1x16384x1, .f32⟩
  | 36 => ⟨S1x16384x1, .f32⟩
  | 37 => ⟨S1x16384x1, .f32⟩
  | 38 => ⟨S1x16384x1024, .f32⟩
  | 39 => ⟨S1x16384x1024, .f32⟩
  | 40 => ⟨S1x1x1024, .f32⟩
  | 41 => ⟨S1x16384x1024, .f32⟩
  | 42 => ⟨S1x16384x1024, .f32⟩
  | 43 => ⟨S16384x1024, .f32⟩
  | 44 => ⟨S2x2816, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_2 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_6 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_7 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_8 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_9 : Ref sig .tc := ⟨.hbm, 142, rfl⟩
abbrev main_v117 : Ref sig .tc := ⟨.hbm, 143, rfl⟩
abbrev main_v118 : Ref sig .tc := ⟨.hbm, 144, rfl⟩
abbrev main_cst_10 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_11 : Ref sig .tc := ⟨.hbm, 156, rfl⟩
abbrev main_v129 : Ref sig .tc := ⟨.hbm, 157, rfl⟩
abbrev main_v130 : Ref sig .tc := ⟨.hbm, 158, rfl⟩
abbrev main_cst_12 : Ref sig .tc := ⟨.hbm, 159, rfl⟩
abbrev main_v131 : Ref sig .tc := ⟨.hbm, 160, rfl⟩
abbrev main_v132 : Ref sig .tc := ⟨.hbm, 161, rfl⟩
abbrev main_cst_13 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩

abbrev nD : Nat := 1
abbrev τ : Topo := Topo.v7x

variable {F : FTy → Type} [FloatOps F]
-- ==== Proof.Frames.lean ====
/-
  The frame claims and the preserved constants: every program ends with its arguments as they were and every semaphore counter at
  zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_merge_defined
public import Idealize.ShloMosaic.Adequacy
public import Idealize.ShloMosaic.Init

@[expose] public section

noncomputable section

namespace Cert.Frames

open Idealize.ShloMosaic Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Pre_merge_defined.Facts := Cert.Pre_merge_defined.Gen.facts

/-- The feed-forward kernel, at the bit-exact values. -/
theorem kernel2 : Cert.quiescent_Kernel2 := fun m ρ _ => Cert.Kernel2.Gen.frame m ρ

/-- The feed-forward kernel, at the ideal values. -/
theorem kernel2Ideal : Cert.quiescent_Kernel2Ideal := fun m ρ _ => Cert.Kernel2Ideal.Gen.frame m ρ

/-- The feed-forward's reference. -/
theorem reference2Ideal : Cert.quiescent_Reference2Ideal := fun m ρ _ =>
  (θ_run _ _ _).mono (fun r h => ⟨fun c => (h c).2.2, sem_eq_zero_of_no_sems (by decide) r.2⟩)
    (Cert.Reference2Ideal.Value.run (F := Ideal) m ρ)

/-- The feed-forward names no constant. -/
theorem preserves2 : Cert.preserves_Kernel2_Kernel2Ideal := trivial

/-- The merge kernel, at the bit-exact values. -/
theorem kernel3 : Cert.quiescent_Kernel3 := fun m ρ _ => Cert.Kernel3.Gen.frame m ρ

/-- The merge kernel, at the ideal values. -/
theorem kernel3Ideal : Cert.quiescent_Kernel3Ideal := fun m ρ _ => Cert.Kernel3Ideal.Gen.frame m ρ

/-- The same, of arguments that meet the precondition. -/
theorem kernel3Ideal_defined : Cert.quiescent_Kernel3Ideal_pre_merge_defined := fun m ρ _ => Cert.Kernel3Ideal.Gen.frame m ρ

/-- The merge's reference. -/
theorem reference3Ideal : Cert.quiescent_Reference3Ideal := fun m ρ _ =>
  (θ_run _ _ _).mono (fun r h => ⟨fun c => (h c).2.2, sem_eq_zero_of_no_sems (by decide) r.2⟩)
    (Cert.Reference3Ideal.Value.run (F := Ideal) m ρ)

/-- The same, of arguments that meet the precondition. -/
theorem reference3Ideal_defined : Cert.quiescent_Reference3Ideal_pre_merge_defined := fun m ρ _ => reference3Ideal m ρ trivial

/-- The merge names no constant. -/
theorem preserves3 : Cert.preserves_Kernel3_Kernel3Ideal := trivial

end Cert.Frames

end
-- ==== Proof.FfnRow.lean ====
/-
  The even mixer's end and the feed-forward of one layer, one row and one lane at a time, over the extended reals: what both the
  kernel and the reference compute.
-/
module

public import Idealize.ShloMosaic.PureOps.Ideal

@[expose] public section

noncomputable section

namespace Cert.Ffn

open Idealize.ShloMosaic

/-- The gelu by its tanh formula. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- The arrays of the layer: the residual `x`, the recurrence's read-out `ys`, its input `u`, the spatial gate's output `b`, the
    modulation `mod`, and the layer's weights. -/
structure Layer where
  x : Fin 16384 → Fin 1024 → EReal
  ys : Fin 16384 → Fin 512 → EReal
  u : Fin 16384 → Fin 512 → EReal
  b : Fin 16384 → Fin 512 → EReal
  mod : Fin 6144 → EReal
  d : Fin 512 → EReal
  wGlu : Fin 512 → Fin 512 → EReal
  bGlu : Fin 512 → EReal
  wOut : Fin 1024 → Fin 1024 → EReal
  norm : Fin 1024 → EReal
  wUp : Fin 1024 → Fin 5632 → EReal
  convW : Fin 3 → Fin 2816 → EReal
  convB : Fin 2816 → EReal
  wDown : Fin 2816 → Fin 1024 → EReal

namespace Layer

variable (A : Layer)

/-- The recurrence's output: the gelu of the read-out and the skip term. -/
def y (r : Fin 16384) (j : Fin 512) : EReal := gelu (A.ys r j + A.d j * A.u r j)

/-- The gated output of the mixer's first half. -/
def gated (r : Fin 16384) (j : Fin 512) : EReal := A.y r j * Ideal.logistic (∑ k, A.y r k * A.wGlu k j + A.bGlu j)

/-- The residual after the mixer. -/
def mixed (r : Fin 16384) (l : Fin 1024) : EReal :=
  A.x r l + A.mod ⟨2048 + l, by omega⟩ *
    (∑ k : Fin 512, A.gated r k * A.wOut ⟨k, by omega⟩ l + ∑ k : Fin 512, A.b r k * A.wOut ⟨512 + k, by omega⟩ l)

/-- The normalised and modulated row. -/
def h (r : Fin 16384) (l : Fin 1024) : EReal :=
  A.mixed r l * Ideal.rsqrt (Ideal.div (∑ k, A.mixed r k * A.mixed r k) (Ideal.ofBits .f32 0x44800000#32) + Ideal.ofBits .f32 0x358637BD#32)
    * A.norm l * (1 + A.mod ⟨4096 + l, by omega⟩) + A.mod ⟨3072 + l, by omega⟩

/-- The up-projection. -/
def up (r : Fin 16384) (j : Fin 5632) : EReal := ∑ k, A.h r k * A.wUp k j

/-- The convolution's input at row `n`, two rows of zeros before the first. -/
def padded (n : ℕ) (j : Fin 2816) : EReal := if h : 2 ≤ n ∧ n < 16386 then A.up ⟨n - 2, by omega⟩ ⟨j, by omega⟩ else 0

/-- The causal convolution of width three. -/
def conv (r : Fin 16384) (j : Fin 2816) : EReal :=
  A.convB j + A.convW 0 j * A.padded r j + A.convW 1 j * A.padded (r + 1) j + A.convW 2 j * A.padded (r + 2) j

/-- The layer's output. -/
def out (r : Fin 16384) (l : Fin 1024) : EReal :=
  A.mixed r l + A.mod ⟨5120 + l, by omega⟩ * ∑ k, gelu (A.conv r k) * A.up r ⟨2816 + k, by omega⟩ * A.wDown k l

theorem padded_lt (n : ℕ) (h : n < 2) (j : Fin 2816) : A.padded n j = 0 := dif_neg (by omega)

theorem padded_add (r : Fin 16384) (j : Fin 2816) : A.padded (r + 2) j = A.up r ⟨j, by omega⟩ :=
  (dif_pos ⟨by omega, by omega⟩).trans rfl

end Layer

end Cert.Ffn

end
-- ==== Proof.FfnRef.lean ====
/-
  The layer's reference computes `Layer.out` and the last two rows of the convolution's input.
-/
module

public import proofs.«01_k».proof.Proof.FfnRow
public import proofs.«01_k».proof.Proof.Gen.Reference2Ideal.Run
public import Idealize.ShloMosaic.Lib.Pointwise

@[expose] public section

set_option maxRecDepth 16384

noncomputable section

namespace Cert.Ffn.Ref

open Idealize.ShloMosaic Idealize.ShloMosaic.TcCoe Idealize.SL.Sem
open Cert.Reference2Ideal Cert.Reference2Ideal.Gen Cert.Reference2Ideal.Value

variable (V0 : Valuation τ sig (Elt Ideal))

/-- The reference's arguments as the layer's arrays. -/
def layer : Layer where
  x r l := (V0 (Proc.devRef .tc main_arg0) : FVec Ideal S1x16384x1024 .f32) (ix3 0 r l)
  ys r j := (V0 (Proc.devRef .tc main_arg1) : FVec Ideal S1x16384x512 .f32) (ix3 0 r j)
  u r j := (V0 (Proc.devRef .tc main_arg2) : FVec Ideal S1x16384x512 .f32) (ix3 0 r j)
  b r j := (V0 (Proc.devRef .tc main_arg3) : FVec Ideal S1x16384x512 .f32) (ix3 0 r j)
  mod l := (V0 (Proc.devRef .tc main_arg4) : FVec Ideal S1x6144 .f32) (ix2 0 l)
  d j := (V0 (Proc.devRef .tc main_arg5) : FVec Ideal S1x512 .f32) (ix2 0 j)
  wGlu k j := (V0 (Proc.devRef .tc main_arg6) : FVec Ideal S1x512x512 .f32) (ix3 0 k j)
  bGlu j := (V0 (Proc.devRef .tc main_arg7) : FVec Ideal S1x512 .f32) (ix2 0 j)
  wOut k l := (V0 (Proc.devRef .tc main_arg8) : FVec Ideal S1x1024x1024 .f32) (ix3 0 k l)
  norm l := (V0 (Proc.devRef .tc main_arg9) : FVec Ideal S2x2x1024 .f32) (ix3 0 1 l)
  wUp k j := (V0 (Proc.devRef .tc main_arg10) : FVec Ideal S2x1024x5632 .f32) (ix3 0 k j)
  convW a j := (V0 (Proc.devRef .tc main_arg11) : FVec Ideal S2x3x2816 .f32) (ix3 0 a j)
  convB j := (V0 (Proc.devRef .tc main_arg12) : FVec Ideal S2x2816 .f32) (ix2 0 j)
  wDown k l := (V0 (Proc.devRef .tc main_arg13) : FVec Ideal S2x2816x1024 .f32) (ix3 0 k l)

theorem y_eq (r : Fin 16384) (j : Fin 512) : res_main_v24 V0 (ix3 (0 : Fin 1) r j) = (layer V0).y r j := by
  unfold Layer.y gelu layer
  pointwise [res_main_v24, res_main_v11]
  simp only [mul_assoc]

theorem mixed_eq (r : Fin 16384) (l : Fin 1024) : res_main_v43 V0 (ix3 (0 : Fin 1) r l) = (layer V0).mixed r l := by
  unfold Layer.mixed Layer.gated Ideal.logistic
  pointwise [res_main_v43, res_main_v0, y_eq]
  rfl

theorem up_eq (r : Fin 16384) (j : Fin 5632) : res_main_v74 V0 (ix3 (0 : Fin 1) r j) = (layer V0).up r j := by
  unfold Layer.up Layer.h
  pointwise [res_main_v74, res_main_v0, mixed_eq]
  rfl

theorem padded_eq (n : Fin 16386) (j : Fin 2816) : res_main_v77 V0 (ix3 (0 : Fin 1) n j) = (layer V0).padded n j := by
  unfold Layer.padded
  pointwise [res_main_v77, up_eq]
  by_cases h : (n : ℕ) < 2
  · rw [dif_pos h, dif_neg (by omega)]
  · rw [dif_neg h, dif_pos (by omega)]

theorem conv_eq (r : Fin 16384) (j : Fin 2816) : res_main_v100 V0 (ix3 (0 : Fin 1) r j) = (layer V0).conv r j := by
  unfold Layer.conv
  pointwise [res_main_v100, res_main_v69, padded_eq]
  have e : ∀ a : ℕ, (layer V0).padded (a + r) j = (layer V0).padded (r + a) j := fun a => by rw [Nat.add_comm]
  rw [e 1, e 2]
  rfl

/-- The reference's first result, at row `r` and lane `l`. -/
theorem out_eq (r : Fin 16384) (l : Fin 1024) :
    shapeCast S16384x1024 (addf (res_main_v43 V0) (mulf (broadcastInDim S1x16384x1024 ![0, 1, 2] bcast_S1x1x1024_S1x16384x1024_0_1_2 (extractStridedSlice S1x1x1024 ![0, 0, 5120] (res_main_v0 V0) slices_S1x1x6144_S1x1x1024_0_0_5120)) (Host.dotGeneral (φ₁ := .f32) (φ₂ := .f32) dot_S1x16384x2816_S2816x1024_S1x16384x1024_2_0_01_1_n_n none (mulf (mulf (res_main_v100 V0) (mulf (broadcastInDim S1x16384x2816 ![] bcast_S_S1x16384x2816 (constant S_ .f32 0x3F000000#32)) (addf (broadcastInDim S1x16384x2816 ![] bcast_S_S1x16384x2816 (constant S_ .f32 0x3F800000#32)) (Host.tanh (mulf (broadcastInDim S1x16384x2816 ![] bcast_S_S1x16384x2816 (constant S_ .f32 0x3F4C422A#32)) (addf (res_main_v100 V0) (mulf (broadcastInDim S1x16384x2816 ![] bcast_S_S1x16384x2816 (constant S_ .f32 0x3D372713#32)) (mulf (mulf (res_main_v100 V0) (res_main_v100 V0)) (res_main_v100 V0))))))))) (extractStridedSlice S1x16384x2816 ![0, 0, 2816] (res_main_v74 V0) slices_S1x16384x5632_S1x16384x2816_0_0_2816)) (shapeCast S2816x1024 (extractStridedSlice S1x2816x1024 ![0, 0, 0] (V0 (Proc.devRef .tc main_arg13) : FVec Ideal S2x2816x1024 .f32) slices_S2x2816x1024_S1x2816x1024_0_0_0) shapeCasts_S1x2816x1024_S2816x1024)))) shapeCasts_S1x16384x1024_S16384x1024 (ix2 r l) = (layer V0).out r l := by
  unfold Layer.out gelu
  pointwise [res_main_v0, mixed_eq, conv_eq, up_eq]
  simp only [mul_assoc]
  rfl

/-- The reference's second result, at row `a` and lane `j`. -/
theorem tail_eq (a : Fin 2) (j : Fin 2816) :
    shapeCast S2x2816 (extractStridedSlice S1x2x2816 ![0, 16384, 0] (res_main_v77 V0) slices_S1x16386x2816_S1x2x2816_0_16384_0) shapeCasts_S1x2x2816_S2x2816 (ix2 a j)
      = (layer V0).padded (16384 + a) j := by
  pointwise [padded_eq]

end Cert.Ffn.Ref

end
-- ==== Proof.FfnBlock.lean ====
/-
  What the feed-forward kernel's body computes of the blocks it loads, one element at a time: if the blocks hold the layer's rows
  from row `o` on, each intermediate holds the layer's intermediate there.
-/
module

public import proofs.«01_k».proof.Proof.FfnRow
public import proofs.«01_k».proof.Proof.Gen.Kernel2Ideal.Skeleton
public import Idealize.ShloMosaic.Lib.Pointwise

@[expose] public section

set_option maxRecDepth 16384

noncomputable section

namespace Cert.Ffn.Block

open Idealize.ShloMosaic Idealize.ShloMosaic.TcCoe Idealize.SL.Sem
open Cert.Kernel2Ideal Cert.Kernel2Ideal.Gen

/-- Row `r` of the block whose first row is `o`. -/
abbrev at_ (t : Fin 32) (r : Fin 512) : Fin 16384 := ⟨t.val * 512 + r, by omega⟩

variable (A : Layer) (t : Fin 32)

theorem gated_eq (p : Fin 4 → FVec Ideal S1x512x128 .f32) (d : FVec Ideal S1x512 .f32) (u : FVec Ideal S512x512 .f32) (wg : FVec Ideal S512x512 .bf16)
    (bg : FVec Ideal S1x512 .f32)
    (hp : ∀ (o : Fin 4) (r : Fin 512) (k : Fin 128), p o (ix3 (0 : Fin 1) r k) = A.ys (at_ t r) ⟨o.val * 128 + k, by omega⟩)
    (hd : ∀ j : Fin 512, d (ix2 (0 : Fin 1) j) = A.d j) (hu : ∀ (r j : Fin 512), u (ix2 r j) = A.u (at_ t r) j)
    (hwg : ∀ k j : Fin 512, wg (ix2 k j) = A.wGlu k j) (hbg : ∀ j : Fin 512, bg (ix2 (0 : Fin 1) j) = A.bGlu j) (r j : Fin 512) :
    k0_pay80 (F := Ideal) (k0_pay79 (p 0)) (p 1) (p 2) (p 3) d u wg bg (ix2 r j) = A.gated (at_ t r) j := by
  have hl : ∀ x : Fin 512, (if h : (x : ℕ) < 128 then p 0 (ix3 (0 : Fin 1) r ⟨x, h⟩)
      else if h : (x : ℕ) - 128 < 128 then p 1 (ix3 (0 : Fin 1) r ⟨x - 128, h⟩)
      else if h : (x : ℕ) - 128 - 128 < 128 then p 2 (ix3 (0 : Fin 1) r ⟨x - 128 - 128, h⟩)
      else p 3 (ix3 (0 : Fin 1) r ⟨x - 128 - 128 - 128, by omega⟩)) = A.ys (at_ t r) x := by
    intro x
    split_ifs with h1 h2 h3
    · rw [hp]; congr 1; ext; simp
    · rw [hp]; congr 1; ext; simp; omega
    · rw [hp]; congr 1; ext; simp; omega
    · rw [hp]; congr 1; ext; simp; omega
  unfold Layer.gated Layer.y gelu
  pointwise [k0_pay80, k0_pay79]
  simp only [hl, hd, hu, hwg, hbg]

theorem mixed_eq (a : FVec Ideal S512x512 .bf16) (w1 w2 : FVec Ideal S512x1024 .bf16) (b : FVec Ideal S512x512 .bf16) (x : FVec Ideal S512x1024 .f32)
    (g1 : FVec Ideal S1x1024 .f32)
    (ha : ∀ r j : Fin 512, a (ix2 r j) = A.gated (at_ t r) j)
    (hw1 : ∀ (k : Fin 512) (l : Fin 1024), w1 (ix2 k l) = A.wOut ⟨k, by omega⟩ l)
    (hb : ∀ r j : Fin 512, b (ix2 r j) = A.b (at_ t r) j)
    (hw2 : ∀ (k : Fin 512) (l : Fin 1024), w2 (ix2 k l) = A.wOut ⟨512 + k, by omega⟩ l)
    (hx : ∀ (r : Fin 512) (l : Fin 1024), x (ix2 r l) = A.x (at_ t r) l)
    (hg : ∀ l : Fin 1024, g1 (ix2 (0 : Fin 1) l) = A.mod ⟨2048 + l, by omega⟩) (r : Fin 512) (l : Fin 1024) :
    k0_pay81 (F := Ideal) a w1 b w2 x g1 (ix2 r l) = A.mixed (at_ t r) l := by
  unfold Layer.mixed
  pointwise [k0_pay81]
  simp only [ha, hw1, hb, hw2, hx, hg]

theorem h_eq (a : FVec Ideal S512x512 .bf16) (w1 w2 : FVec Ideal S512x1024 .bf16) (b : FVec Ideal S512x512 .bf16) (x : FVec Ideal S512x1024 .f32)
    (g1 ng sh sc : FVec Ideal S1x1024 .f32)
    (hm : ∀ (r : Fin 512) (l : Fin 1024), k0_pay81 (F := Ideal) a w1 b w2 x g1 (ix2 r l) = A.mixed (at_ t r) l)
    (hng : ∀ l : Fin 1024, ng (ix2 (0 : Fin 1) l) = A.norm l)
    (hsh : ∀ l : Fin 1024, sh (ix2 (0 : Fin 1) l) = A.mod ⟨3072 + l, by omega⟩)
    (hsc : ∀ l : Fin 1024, sc (ix2 (0 : Fin 1) l) = A.mod ⟨4096 + l, by omega⟩) (r : Fin 512) (l : Fin 1024) :
    k0_pay82 (F := Ideal) a w1 b w2 x g1 ng sh sc (ix2 r l) = A.h (at_ t r) l := by
  unfold Layer.h
  pointwise [k0_pay82]
  simp only [hm, hng, hsh, hsc]

theorem upA_eq (h : FVec Ideal S512x1024 .bf16) (w : FVec Ideal S1x1024x2816 .bf16) (hh : ∀ (r : Fin 512) (l : Fin 1024), h (ix2 r l) = A.h (at_ t r) l)
    (hw : ∀ (k : Fin 1024) (j : Fin 2816), w (ix3 (0 : Fin 1) k j) = A.wUp k ⟨j, by omega⟩) (r : Fin 512) (j : Fin 2816) :
    k0_pay84 (F := Ideal) h w (ix2 r j) = A.up (at_ t r) ⟨j, by omega⟩ := by
  unfold Layer.up
  pointwise [k0_pay84]
  simp only [hh, hw]

theorem upG_eq (h : FVec Ideal S512x1024 .bf16) (w : FVec Ideal S1x1024x2816 .bf16) (hh : ∀ (r : Fin 512) (l : Fin 1024), h (ix2 r l) = A.h (at_ t r) l)
    (hw : ∀ (k : Fin 1024) (j : Fin 2816), w (ix3 (0 : Fin 1) k j) = A.wUp k ⟨2816 + j, by omega⟩) (r : Fin 512) (j : Fin 2816) :
    k0_pay85 (F := Ideal) h w (ix2 r j) = A.up (at_ t r) ⟨2816 + j, by omega⟩ := by
  unfold Layer.up
  pointwise [k0_pay85]
  simp only [hh, hw]

/-- The rows that the point keeps for the next: rows 510 and 511 of the up-projection's first half. -/
theorem kept_eq (h : FVec Ideal S512x1024 .bf16) (w : FVec Ideal S1x1024x2816 .bf16)
    (hu : ∀ (r : Fin 512) (j : Fin 2816), k0_pay84 (F := Ideal) h w (ix2 r j) = A.up (at_ t r) ⟨j, by omega⟩) (a : Fin 2) (j : Fin 2816) :
    k0_pay88 (F := Ideal) h w (ix2 a j) = A.padded ((t.val + 1) * 512 + a) j := by
  have e : (t.val + 1) * 512 + a.val = (at_ t ⟨510 + a, by omega⟩).val + 2 := by simp only; omega
  rw [e, A.padded_add]
  pointwise [k0_pay88]
  exact hu _ _

/-- A choice on whether the row is row `c`. -/
theorem pick {α : Type} (r c : Fin 512) (x y : α) :
    Scalar.select (IntOp.cmpi .eq (BitVec.ofNat 32 r) (BitVec.ofNat 32 c)) x y = if r.val = c.val then x else y := by
  unfold Scalar.select IntOp.cmpi
  by_cases h : r.val = c.val
  · simp [h]
  · have : BitVec.ofNat 32 r.val ≠ BitVec.ofNat 32 c.val := fun e => h (by
      have := congrArg BitVec.toNat e
      simp only [BitVec.toNat_ofNat] at this
      omega)
    simp only [this, if_neg h]
    exact if_neg (by simp [beq_eq_false_iff_ne.mpr this])

/-- The row before: the carried row at the block's first, else the block's own. -/
theorem back1_eq (h : FVec Ideal S512x1024 .bf16) (w : FVec Ideal S1x1024x2816 .bf16) (c1 : FVec Ideal S1x2816 .f32)
    (hu : ∀ (r : Fin 512) (j : Fin 2816), k0_pay84 (F := Ideal) h w (ix2 r j) = A.up (at_ t r) ⟨j, by omega⟩)
    (h1 : ∀ j : Fin 2816, c1 (ix2 (0 : Fin 1) j) = A.padded (t.val * 512 + 1) j) (r : Fin 512) (j : Fin 2816) :
    k0_pay86 (F := Ideal) h w c1 (ix2 r j) = A.padded ((at_ t r).val + 1) j := by
  pointwise [k0_pay86]
  refine (pick r 0 _ _).trans ?_
  split_ifs with hr
  · exact (h1 j).trans (congrArg (A.padded · j) (by change r.val = 0 at hr; simp only [hr, Nat.add_zero]))
  · refine (hu _ _).trans ((A.padded_add _ _).symm.trans (congrArg (A.padded · j) ?_))
    change ¬ r.val = 0 at hr
    show t.val * 512 + (r.val + 512 - 1) % 512 + 2 = t.val * 512 + r.val + 1
    omega

/-- The row before that. -/
theorem back2_eq (h : FVec Ideal S512x1024 .bf16) (w : FVec Ideal S1x1024x2816 .bf16) (c0 c1 : FVec Ideal S1x2816 .f32)
    (hu : ∀ (r : Fin 512) (j : Fin 2816), k0_pay84 (F := Ideal) h w (ix2 r j) = A.up (at_ t r) ⟨j, by omega⟩)
    (h0 : ∀ j : Fin 2816, c0 (ix2 (0 : Fin 1) j) = A.padded (t.val * 512) j)
    (h1 : ∀ j : Fin 2816, c1 (ix2 (0 : Fin 1) j) = A.padded (t.val * 512 + 1) j) (r : Fin 512) (j : Fin 2816) :
    k0_pay87 (F := Ideal) h w c0 c1 (ix2 r j) = A.padded (at_ t r).val j := by
  pointwise [k0_pay87]
  refine (pick r 0 _ _).trans ?_
  split_ifs with hr
  · exact (h0 j).trans (congrArg (A.padded · j) (by change r.val = 0 at hr; simp only [hr, Nat.add_zero]))
  refine (pick r 1 _ _).trans ?_
  split_ifs with hr'
  · exact (h1 j).trans (congrArg (A.padded · j) (by change r.val = 1 at hr'; simp only [hr']))
  · refine (hu _ _).trans ((A.padded_add _ _).symm.trans (congrArg (A.padded · j) ?_))
    change ¬ r.val = 0 at hr
    change ¬ r.val = 1 at hr'
    show t.val * 512 + (r.val + 512 - 2) % 512 + 2 = t.val * 512 + r.val
    omega

/-- The block's output. -/
theorem out_eq (xm : FVec Ideal S512x1024 .f32) (a g p1 p2 : FVec Ideal S512x2816 .f32) (cb w0 w1 w2 : FVec Ideal S1x1x2816 .f32)
    (wd : FVec Ideal S1x2816x1024 .bf16) (g2 : FVec Ideal S1x1024 .f32)
    (hxm : ∀ (r : Fin 512) (l : Fin 1024), xm (ix2 r l) = A.mixed (at_ t r) l)
    (ha : ∀ (r : Fin 512) (j : Fin 2816), a (ix2 r j) = A.up (at_ t r) ⟨j, by omega⟩)
    (hg : ∀ (r : Fin 512) (j : Fin 2816), g (ix2 r j) = A.up (at_ t r) ⟨2816 + j, by omega⟩)
    (hp1 : ∀ (r : Fin 512) (j : Fin 2816), p1 (ix2 r j) = A.padded ((at_ t r).val + 1) j)
    (hp2 : ∀ (r : Fin 512) (j : Fin 2816), p2 (ix2 r j) = A.padded (at_ t r).val j)
    (hcb : ∀ j : Fin 2816, cb (ix3 (0 : Fin 1) (0 : Fin 1) j) = A.convB j)
    (hw0 : ∀ j : Fin 2816, w0 (ix3 (0 : Fin 1) (0 : Fin 1) j) = A.convW 0 j)
    (hw1 : ∀ j : Fin 2816, w1 (ix3 (0 : Fin 1) (0 : Fin 1) j) = A.convW 1 j)
    (hw2 : ∀ j : Fin 2816, w2 (ix3 (0 : Fin 1) (0 : Fin 1) j) = A.convW 2 j)
    (hwd : ∀ (k : Fin 2816) (l : Fin 1024), wd (ix3 (0 : Fin 1) k l) = A.wDown k l)
    (hg2 : ∀ l : Fin 1024, g2 (ix2 (0 : Fin 1) l) = A.mod ⟨5120 + l, by omega⟩) (r : Fin 512) (l : Fin 1024) :
    k0_pay1 (F := Ideal) xm (k0_pay89 k0_pay83 a g p1 p2 cb w0 w1 w2 wd g2) (ix2 r l) = A.out (at_ t r) l := by
  unfold Layer.out Layer.conv gelu
  pointwise [k0_pay1, k0_pay89, k0_pay83]
  simp only [hxm, ha, hg, hp1, hp2, hcb, hw0, hw1, hw2, hwd, hg2]
  have e : ∀ j : Fin 2816, A.up (at_ t r) ⟨j, by omega⟩ = A.padded (t.val * 512 + r.val + 2) j := fun j => (A.padded_add (at_ t r) j).symm
  simp only [e]

/-- What the body's arithmetic reads at one point: the four chunks of the staged read-out, the blocks or parts of blocks of
    the other operands, and the two carried rows. -/
structure Ops where
  p0 : FVec Ideal S1x512x128 .f32
  p1 : FVec Ideal S1x512x128 .f32
  p2 : FVec Ideal S1x512x128 .f32
  p3 : FVec Ideal S1x512x128 .f32
  d : FVec Ideal S1x512 .f32
  u : FVec Ideal S512x512 .f32
  wGlu : FVec Ideal S512x512 .bf16
  bGlu : FVec Ideal S1x512 .f32
  w1 : FVec Ideal S512x1024 .bf16
  b : FVec Ideal S512x512 .bf16
  w2 : FVec Ideal S512x1024 .bf16
  x : FVec Ideal S512x1024 .f32
  g1 : FVec Ideal S1x1024 .f32
  norm : FVec Ideal S1x1024 .f32
  shift : FVec Ideal S1x1024 .f32
  scale : FVec Ideal S1x1024 .f32
  wa : FVec Ideal S1x1024x2816 .bf16
  wg : FVec Ideal S1x1024x2816 .bf16
  c0 : FVec Ideal S1x2816 .f32
  c1 : FVec Ideal S1x2816 .f32
  cb : FVec Ideal S1x1x2816 .f32
  cw0 : FVec Ideal S1x1x2816 .f32
  cw1 : FVec Ideal S1x1x2816 .f32
  cw2 : FVec Ideal S1x1x2816 .f32
  wd : FVec Ideal S1x2816x1024 .bf16
  g2 : FVec Ideal S1x1024 .f32

namespace Ops

variable (O : Ops)

/-- The normalised rows that enter the feed-forward. -/
def h : FVec Ideal S512x1024 .bf16 :=
  k0_pay82 (k0_pay80 (k0_pay79 O.p0) O.p1 O.p2 O.p3 O.d O.u O.wGlu O.bGlu) O.w1 O.b O.w2 O.x O.g1 O.norm O.shift O.scale

/-- The rows written back. -/
def out : FVec Ideal S512x1024 .f32 :=
  k0_pay1 (k0_pay81 (k0_pay80 (k0_pay79 O.p0) O.p1 O.p2 O.p3 O.d O.u O.wGlu O.bGlu) O.w1 O.b O.w2 O.x O.g1)
    (k0_pay89 k0_pay83 (k0_pay84 O.h O.wa) (k0_pay85 O.h O.wg) (k0_pay86 O.h O.wa O.c1) (k0_pay87 O.h O.wa O.c0 O.c1) O.cb O.cw0 O.cw1 O.cw2 O.wd O.g2)

/-- The rows kept for the next point. -/
def kept : FVec Ideal S2x2816 .f32 := k0_pay88 O.h O.wa

/-- The operands hold the layer's arrays, the rows from the block's first on. -/
structure Agree : Prop where
  p0 : ∀ (r : Fin 512) (k : Fin 128), O.p0 (ix3 (0 : Fin 1) r k) = A.ys (at_ t r) ⟨0 * 128 + k, by omega⟩
  p1 : ∀ (r : Fin 512) (k : Fin 128), O.p1 (ix3 (0 : Fin 1) r k) = A.ys (at_ t r) ⟨1 * 128 + k, by omega⟩
  p2 : ∀ (r : Fin 512) (k : Fin 128), O.p2 (ix3 (0 : Fin 1) r k) = A.ys (at_ t r) ⟨2 * 128 + k, by omega⟩
  p3 : ∀ (r : Fin 512) (k : Fin 128), O.p3 (ix3 (0 : Fin 1) r k) = A.ys (at_ t r) ⟨3 * 128 + k, by omega⟩
  d : ∀ j : Fin 512, O.d (ix2 (0 : Fin 1) j) = A.d j
  u : ∀ r j : Fin 512, O.u (ix2 r j) = A.u (at_ t r) j
  wGlu : ∀ k j : Fin 512, O.wGlu (ix2 k j) = A.wGlu k j
  bGlu : ∀ j : Fin 512, O.bGlu (ix2 (0 : Fin 1) j) = A.bGlu j
  w1 : ∀ (k : Fin 512) (l : Fin 1024), O.w1 (ix2 k l) = A.wOut ⟨k, by omega⟩ l
  b : ∀ r j : Fin 512, O.b (ix2 r j) = A.b (at_ t r) j
  w2 : ∀ (k : Fin 512) (l : Fin 1024), O.w2 (ix2 k l) = A.wOut ⟨512 + k, by omega⟩ l
  x : ∀ (r : Fin 512) (l : Fin 1024), O.x (ix2 r l) = A.x (at_ t r) l
  g1 : ∀ l : Fin 1024, O.g1 (ix2 (0 : Fin 1) l) = A.mod ⟨2048 + l, by omega⟩
  norm : ∀ l : Fin 1024, O.norm (ix2 (0 : Fin 1) l) = A.norm l
  shift : ∀ l : Fin 1024, O.shift (ix2 (0 : Fin 1) l) = A.mod ⟨3072 + l, by omega⟩
  scale : ∀ l : Fin 1024, O.scale (ix2 (0 : Fin 1) l) = A.mod ⟨4096 + l, by omega⟩
  wa : ∀ (k : Fin 1024) (j : Fin 2816), O.wa (ix3 (0 : Fin 1) k j) = A.wUp k ⟨j, by omega⟩
  wg : ∀ (k : Fin 1024) (j : Fin 2816), O.wg (ix3 (0 : Fin 1) k j) = A.wUp k ⟨2816 + j, by omega⟩
  c0 : ∀ j : Fin 2816, O.c0 (ix2 (0 : Fin 1) j) = A.padded (t.val * 512) j
  c1 : ∀ j : Fin 2816, O.c1 (ix2 (0 : Fin 1) j) = A.padded (t.val * 512 + 1) j
  cb : ∀ j : Fin 2816, O.cb (ix3 (0 : Fin 1) (0 : Fin 1) j) = A.convB j
  cw0 : ∀ j : Fin 2816, O.cw0 (ix3 (0 : Fin 1) (0 : Fin 1) j) = A.convW 0 j
  cw1 : ∀ j : Fin 2816, O.cw1 (ix3 (0 : Fin 1) (0 : Fin 1) j) = A.convW 1 j
  cw2 : ∀ j : Fin 2816, O.cw2 (ix3 (0 : Fin 1) (0 : Fin 1) j) = A.convW 2 j
  wd : ∀ (k : Fin 2816) (l : Fin 1024), O.wd (ix3 (0 : Fin 1) k l) = A.wDown k l
  g2 : ∀ l : Fin 1024, O.g2 (ix2 (0 : Fin 1) l) = A.mod ⟨5120 + l, by omega⟩

variable {A t O}

theorem Agree.mixed_eq (H : O.Agree A t) (r : Fin 512) (l : Fin 1024) :
    k0_pay81 (F := Ideal) (k0_pay80 (k0_pay79 O.p0) O.p1 O.p2 O.p3 O.d O.u O.wGlu O.bGlu) O.w1 O.b O.w2 O.x O.g1 (ix2 r l)
      = A.mixed (at_ t r) l :=
  Block.mixed_eq A t _ _ _ _ _ _ (gated_eq A t ![O.p0, O.p1, O.p2, O.p3] O.d O.u O.wGlu O.bGlu
    (fun o r k => by match o with | 0 => exact H.p0 r k | 1 => exact H.p1 r k | 2 => exact H.p2 r k | 3 => exact H.p3 r k) H.d H.u H.wGlu H.bGlu) H.w1 H.b H.w2 H.x H.g1 r l

theorem Agree.h_eq (H : O.Agree A t) (r : Fin 512) (l : Fin 1024) : O.h (ix2 r l) = A.h (at_ t r) l :=
  Block.h_eq A t _ _ _ _ _ _ _ _ _ H.mixed_eq H.norm H.shift H.scale r l

theorem Agree.up_eq (H : O.Agree A t) (r : Fin 512) (j : Fin 2816) :
    k0_pay84 (F := Ideal) O.h O.wa (ix2 r j) = A.up (at_ t r) ⟨j, by omega⟩ := upA_eq A t _ _ H.h_eq H.wa r j

theorem Agree.out_eq (H : O.Agree A t) (r : Fin 512) (l : Fin 1024) : O.out (ix2 r l) = A.out (at_ t r) l :=
  Block.out_eq A t _ _ _ _ _ _ _ _ _ _ _ H.mixed_eq H.up_eq (upG_eq A t _ _ H.h_eq H.wg) (back1_eq A t _ _ _ H.up_eq H.c1)
    (back2_eq A t _ _ _ _ H.up_eq H.c0 H.c1) H.cb H.cw0 H.cw1 H.cw2 H.wd H.g2 r l

theorem Agree.kept_eq (H : O.Agree A t) (a : Fin 2) (j : Fin 2816) : O.kept (ix2 a j) = A.padded ((t.val + 1) * 512 + a) j :=
  Block.kept_eq A t _ _ H.up_eq a j

end Ops

end Cert.Ffn.Block

end
-- ==== Proof.FfnHolds.lean ====
/-
  The layer's arrays as the feed-forward program's arguments give them, and the blocks that the pipeline brings at a grid point: each
  holds the rows of its array that the point works on.
-/
module

public import proofs.«01_k».proof.Proof.FfnBlock
public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Ffn.Point

open Idealize.ShloMosaic Idealize.ShloMosaic.TcCoe Idealize.SL.Sem
open Cert.Kernel2Ideal Cert.Kernel2Ideal.Gen
open Cert.Ffn.Block (at_)

variable (m : (ℓ : Loc nD τ sig) → Buf (Elt Ideal) ℓ)

/-- The number of a grid point. -/
abbrev num (t : Fin cfg0.N) : Fin 32 := ⟨t.val, lt_of_lt_of_eq t.isLt N_0⟩

/-- The blocks the pipeline brings at point `t` hold the layer's arrays. -/
structure Holds (A : Layer) (c : Dev nD) (t : Fin cfg0.N) : Prop where
  x : ∀ (r : Fin 512) (l : Fin 1024), iblk m c 0 t (ix2 r l) = A.x (at_ (num t) r) l
  ys : ∀ (o : Fin 4) (r : Fin 512) (k : Fin 128),
    iblk m c 1 t (ix2 (⟨r / 16, by omega⟩ : Fin 32) (⟨(o.val * 16 + r % 16) * 128 + k, by omega⟩ : Fin 8192)) = A.ys (at_ (num t) r) ⟨o.val * 128 + k, by omega⟩
  u : ∀ r j : Fin 512, iblk m c 2 t (ix2 r j) = A.u (at_ (num t) r) j
  b : ∀ r j : Fin 512, iblk m c 3 t (ix2 r j) = A.b (at_ (num t) r) j
  mod1 : ∀ l : Fin 6144, iblk m c 4 t (ix2 (0 : Fin 1) l) = A.mod l
  d : ∀ j : Fin 512, iblk m c 5 t (ix2 (0 : Fin 1) j) = A.d j
  wGlu : ∀ k j : Fin 512, iblk m c 6 t (ix2 k j) = A.wGlu k j
  bGlu : ∀ j : Fin 512, iblk m c 7 t (ix2 (0 : Fin 1) j) = A.bGlu j
  wOut : ∀ k l : Fin 1024, iblk m c 8 t (ix2 k l) = A.wOut k l
  mod : ∀ l : Fin 6144, iblk m c 9 t (ix2 (0 : Fin 1) l) = A.mod l
  norm : ∀ l : Fin 1024, iblk m c 10 t (ix2 (0 : Fin 1) l) = A.norm l
  wUp : ∀ (k : Fin 1024) (j : Fin 5632), iblk m c 11 t (ix3 (0 : Fin 1) k j) = A.wUp k j
  convW : ∀ (a : Fin 3) (j : Fin 2816), iblk m c 12 t (ix3 (0 : Fin 1) a j) = A.convW a j
  convB : ∀ j : Fin 2816, iblk m c 13 t (ix3 (0 : Fin 1) (0 : Fin 1) j) = A.convB j
  wDown : ∀ (k : Fin 2816) (l : Fin 1024), iblk m c 14 t (ix3 (0 : Fin 1) k l) = A.wDown k l

variable (c : Dev nD)

/-- The program's arguments as the layer's arrays. -/
def layer : Layer where
  x r l := (m ((c : Thread nD τ).loc main_arg0) : FVec Ideal S1x16384x1024 .f32) (ix3 0 r l)
  ys r j := (m ((c : Thread nD τ).loc main_arg1) : FVec Ideal S1x16384x512 .f32) (ix3 0 r j)
  u r j := (m ((c : Thread nD τ).loc main_arg2) : FVec Ideal S1x16384x512 .f32) (ix3 0 r j)
  b r j := (m ((c : Thread nD τ).loc main_arg3) : FVec Ideal S1x16384x512 .f32) (ix3 0 r j)
  mod l := (m ((c : Thread nD τ).loc main_arg4) : FVec Ideal S1x6144 .f32) (ix2 0 l)
  d j := (m ((c : Thread nD τ).loc main_arg5) : FVec Ideal S1x512 .f32) (ix2 0 j)
  wGlu k j := (m ((c : Thread nD τ).loc main_arg6) : FVec Ideal S1x512x512 .f32) (ix3 0 k j)
  bGlu j := (m ((c : Thread nD τ).loc main_arg7) : FVec Ideal S1x512 .f32) (ix2 0 j)
  wOut k l := (m ((c : Thread nD τ).loc main_arg8) : FVec Ideal S1x1024x1024 .f32) (ix3 0 k l)
  norm l := (m ((c : Thread nD τ).loc main_arg9) : FVec Ideal S2x2x1024 .f32) (ix3 0 1 l)
  wUp k j := (m ((c : Thread nD τ).loc main_arg10) : FVec Ideal S2x1024x5632 .f32) (ix3 0 k j)
  convW a j := (m ((c : Thread nD τ).loc main_arg11) : FVec Ideal S2x3x2816 .f32) (ix3 0 a j)
  convB j := (m ((c : Thread nD τ).loc main_arg12) : FVec Ideal S2x2816 .f32) (ix2 0 j)
  wDown k l := (m ((c : Thread nD τ).loc main_arg13) : FVec Ideal S2x2816x1024 .f32) (ix3 0 k l)

/-- The windows' index maps: the row blocks move with the point, the other blocks stay. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![0, 0, 0]
    ∧ win0_13.index t = ![0, 0, 0] ∧ win0_14.index t = ![0, 0, 0] ∧ win0_15.index t = ![t.val, 0] ∧ win0_16.index t = ![0, 0] :=
  (by decide +kernel : ∀ t : Fin grid0.N, _)

variable (t : Fin cfg0.N)

theorem x_holds : ∀ (r : Fin 512) (l : Fin 1024), iblk m c 0 t (ix2 r l) = (layer m c).x (at_ (num t) r) l := by
  intro r l
  show _ = (m ((c : Thread nD τ).loc main_arg0) : FVec Ideal S1x16384x1024 .f32) (ix3 0 (at_ (num t) r) l)
  unfold at_ num
  blk_ext! [iblk, V, idx t]

theorem ys_holds : ∀ (o : Fin 4) (r : Fin 512) (k : Fin 128),
    iblk m c 1 t (ix2 (⟨r / 16, by omega⟩ : Fin 32) (⟨(o.val * 16 + r % 16) * 128 + k, by omega⟩ : Fin 8192)) = (layer m c).ys (at_ (num t) r) ⟨o.val * 128 + k, by omega⟩ := by
  intro o r k
  show _ = (m ((c : Thread nD τ).loc main_arg1) : FVec Ideal S1x16384x512 .f32) (ix3 0 (at_ (num t) r) ⟨o.val * 128 + k, by omega⟩)
  unfold at_ num
  have e : ((View.whole main_v4).slice (win0_1.rect t)).emb (ix2 (⟨r / 16, by omega⟩ : Fin 32) (⟨(o.val * 16 + r % 16) * 128 + k, by omega⟩ : Fin 8192))
      = ix2 (⟨t.val * 32 + r / 16, by have := t.isLt; have : cfg0.N = 32 := rfl; omega⟩ : Fin 1024) (⟨(o.val * 16 + r % 16) * 128 + k, by omega⟩ : Fin 8192) := by
    blk_ext [idx t]
  blk_simp [iblk, V]
  rw [e]
  entry_read
  pointwise
  have e₁ : (t.val * 32 + r.val / 16) * 16 + ((o.val * 16 + r.val % 16) * 128 + k.val) / 128 % 16 = t.val * 512 + r.val := by omega
  have e₂ : ((o.val * 16 + r.val % 16) * 128 + k.val) / 2048 * 128 + ((o.val * 16 + r.val % 16) * 128 + k.val) % 128 = o.val * 128 + k.val := by omega
  simp only [e₁, e₂]

theorem u_holds : ∀ r j : Fin 512, iblk m c 2 t (ix2 r j) = (layer m c).u (at_ (num t) r) j := by
  intro r j
  show _ = (m ((c : Thread nD τ).loc main_arg2) : FVec Ideal S1x16384x512 .f32) (ix3 0 (at_ (num t) r) j)
  unfold at_ num
  blk_ext! [iblk, V, idx t]

theorem b_holds : ∀ r j : Fin 512, iblk m c 3 t (ix2 r j) = (layer m c).b (at_ (num t) r) j := by
  intro r j
  show _ = (m ((c : Thread nD τ).loc main_arg3) : FVec Ideal S1x16384x512 .f32) (ix3 0 (at_ (num t) r) j)
  unfold at_ num
  blk_ext! [iblk, V, idx t]

theorem mod1_holds : ∀ l : Fin 6144, iblk m c 4 t (ix2 (0 : Fin 1) l) = (layer m c).mod l := by
  intro l
  show _ = (m ((c : Thread nD τ).loc main_arg4) : FVec Ideal S1x6144 .f32) (ix2 0 l)
  blk_ext! [iblk, V, idx t]

theorem d_holds : ∀ j : Fin 512, iblk m c 5 t (ix2 (0 : Fin 1) j) = (layer m c).d j := by
  intro j
  show _ = (m ((c : Thread nD τ).loc main_arg5) : FVec Ideal S1x512 .f32) (ix2 0 j)
  blk_ext! [iblk, V, idx t]

theorem wGlu_holds : ∀ k j : Fin 512, iblk m c 6 t (ix2 k j) = (layer m c).wGlu k j := by
  intro k j
  show _ = (m ((c : Thread nD τ).loc main_arg6) : FVec Ideal S1x512x512 .f32) (ix3 0 k j)
  blk_ext! [iblk, V, idx t]

theorem bGlu_holds : ∀ j : Fin 512, iblk m c 7 t (ix2 (0 : Fin 1) j) = (layer m c).bGlu j := by
  intro j
  show _ = (m ((c : Thread nD τ).loc main_arg7) : FVec Ideal S1x512 .f32) (ix2 0 j)
  blk_ext! [iblk, V, idx t]

theorem wOut_holds : ∀ k l : Fin 1024, iblk m c 8 t (ix2 k l) = (layer m c).wOut k l := by
  intro k l
  show _ = (m ((c : Thread nD τ).loc main_arg8) : FVec Ideal S1x1024x1024 .f32) (ix3 0 k l)
  blk_ext! [iblk, V, idx t]

theorem mod_holds : ∀ l : Fin 6144, iblk m c 9 t (ix2 (0 : Fin 1) l) = (layer m c).mod l := by
  intro l
  show _ = (m ((c : Thread nD τ).loc main_arg4) : FVec Ideal S1x6144 .f32) (ix2 0 l)
  blk_ext! [iblk, V, idx t]

theorem norm_holds : ∀ l : Fin 1024, iblk m c 10 t (ix2 (0 : Fin 1) l) = (layer m c).norm l := by
  intro l
  show _ = (m ((c : Thread nD τ).loc main_arg9) : FVec Ideal S2x2x1024 .f32) (ix3 0 1 l)
  blk_ext! [iblk, V, idx t]

theorem wUp_holds : ∀ (k : Fin 1024) (j : Fin 5632), iblk m c 11 t (ix3 (0 : Fin 1) k j) = (layer m c).wUp k j := by
  intro k j
  show _ = (m ((c : Thread nD τ).loc main_arg10) : FVec Ideal S2x1024x5632 .f32) (ix3 0 k j)
  blk_ext! [iblk, V, idx t]

theorem convW_holds : ∀ (a : Fin 3) (j : Fin 2816), iblk m c 12 t (ix3 (0 : Fin 1) a j) = (layer m c).convW a j := by
  intro a j
  show _ = (m ((c : Thread nD τ).loc main_arg11) : FVec Ideal S2x3x2816 .f32) (ix3 0 a j)
  blk_ext! [iblk, V, idx t]

theorem convB_holds : ∀ j : Fin 2816, iblk m c 13 t (ix3 (0 : Fin 1) (0 : Fin 1) j) = (layer m c).convB j := by
  intro j
  show _ = (m ((c : Thread nD τ).loc main_arg12) : FVec Ideal S2x2816 .f32) (ix2 0 j)
  blk_ext! [iblk, V, idx t]

theorem wDown_holds : ∀ (k : Fin 2816) (l : Fin 1024), iblk m c 14 t (ix3 (0 : Fin 1) k l) = (layer m c).wDown k l := by
  intro k l
  show _ = (m ((c : Thread nD τ).loc main_arg13) : FVec Ideal S2x2816x1024 .f32) (ix3 0 k l)
  blk_ext! [iblk, V, idx t]

/-- Every block at a grid point holds its rows of the layer's arrays. -/
theorem holds : Holds m (layer m c) c t :=
  ⟨x_holds m c t, ys_holds m c t, u_holds m c t, b_holds m c t, mod1_holds m c t, d_holds m c t, wGlu_holds m c t, bGlu_holds m c t, wOut_holds m c t, mod_holds m c t, norm_holds m c t, wUp_holds m c t, convW_holds m c t, convB_holds m c t, wDown_holds m c t⟩

end Cert.Ffn.Point

end
-- ==== Proof.FfnStage.lean ====
/-
  The staging buffer of the recurrence's read-out, [4, 512, 128]: store number `k` of 64 writes rows `k % 16`, `k % 16 + 16`, … of
  chunk `k / 16`. If each stores its rows of one function, the buffer holds that function.
-/
module

public import Idealize.ShloMosaic.Lib.Pipeline.StridedRows
public import Idealize.ShloMosaic.Lib.Pointwise
public import proofs.«01_k».proof.Proof.Gen.Kernel2Ideal.Skeleton

@[expose] public section

noncomputable section

namespace Cert.Ffn.Stage

open Idealize.ShloMosaic Idealize.ShloMosaic.TcCoe Idealize.SL.Sem
open Cert.Kernel2Ideal Cert.Kernel2Ideal.Gen

/-- The rectangle of store `k`. -/
abbrev rows (k : ℕ) : Rect S4x512x128 :=
  StridedRows.rowRect (C := 4) (N := 32) (DP := 16) (D := 16) (L := 128) le_rfl ⟨k / 16 % 4, by omega⟩ ⟨k % 16, by omega⟩

/-- The list `L`, last store first, is stores 0 to `k - 1`, each of its rows of `V`. -/
def Stores (V : Fin 4 → Fin 16 → Fin 32 → Fin 128 → EReal) : ℕ → List (View.Piece (Elt Ideal) S4x512x128 .f32) → Prop
  | 0, L => L = []
  | k + 1, L => ∃ (w : (rows k).shape.Idx → EReal) (L' : List (View.Piece (Elt Ideal) S4x512x128 .f32)),
      L = (⟨rows k, w⟩ : View.Piece (Elt Ideal) S4x512x128 .f32) :: L' ∧
        (∀ (n : Fin 32) (l : Fin 128), w (ix3 (0 : Fin 1) n l) = V ⟨k / 16 % 4, by omega⟩ ⟨k % 16, by omega⟩ n l) ∧ Stores V k L'

variable (V : Fin 4 → Fin 16 → Fin 32 → Fin 128 → EReal)

theorem Stores.value : ∀ (k : ℕ) (L : List (View.Piece (Elt Ideal) S4x512x128 .f32)), Stores V k L →
    ∀ p ∈ L, ∀ y : p.1.shape.Idx, p.2 y = StridedRows.planeValue (Val := Elt Ideal) (e := .f32) (C := 4) (N := 32) (DP := 16) (D := 16) (L := 128) V (p.1.emb y)
  | 0, L, h, p, hp, _ => by rw [show L = [] from h] at hp; exact absurd hp List.not_mem_nil
  | k + 1, _, ⟨w, L', rfl, hw, h'⟩, p, hp, y => by
    rcases List.mem_cons.mp hp with rfl | hp
    · refine StridedRows.rowRect_payload_eq_planeValue (Val := Elt Ideal) (e := .f32) V le_rfl _ _ w (fun x => ?_) y
      refine Eq.trans (congrArg w (funext fun a => ?_)) (hw (x 1) (x 2))
      match a with
      | ⟨0, _⟩ => exact Subsingleton.elim (α := Fin 1) _ _
      | ⟨1, _⟩ => rfl
      | ⟨2, _⟩ => rfl
    · exact Stores.value k L' h' p hp y

theorem Stores.mem : ∀ (k : ℕ) (L : List (View.Piece (Elt Ideal) S4x512x128 .f32)), Stores V k L → ∀ i < k, ∃ w, (⟨rows i, w⟩ : View.Piece (Elt Ideal) S4x512x128 .f32) ∈ L
  | k + 1, _, ⟨w, L', rfl, _, h'⟩, i, hi => by
    rcases Nat.lt_succ_iff_lt_or_eq.mp hi with hi | rfl
    · obtain ⟨w', hw'⟩ := Stores.mem k L' h' i hi
      exact ⟨w', List.mem_cons_of_mem _ hw'⟩
    · exact ⟨w, List.mem_cons_self⟩

/-- After all 64 stores the buffer holds `V`: chunk `o`, row `r` is row `r % 16` of the stores, at position `r / 16`. -/
theorem Stores.read (L : List (View.Piece (Elt Ideal) S4x512x128 .f32)) (h : Stores V 64 L) (o : Fin 4) (r : Fin 512) (l : Fin 128) :
    View.canon L (ix3 o r l : S4x512x128.Idx) = V o ⟨r % 16, by omega⟩ ⟨r / 16, by omega⟩ l := by
  obtain ⟨w, hw⟩ := h.mem V 64 L (o * 16 + r % 16) (by omega)
  rw [View.canon_apply_of_pieces _ L (h.value V 64 L) (ix3 o r l) ⟨_, hw, ?_⟩]
  · unfold StridedRows.planeValue
    exact dif_pos (show r.val % 16 < 16 ∧ r.val / 16 < 32 by omega)
  · rw [LoadRect.mem_set]
    intro a
    match a with
    | ⟨0, _⟩ => exact ⟨0, Nat.one_pos, show o.val = (o.val * 16 + r.val % 16) / 16 % 4 + 1 * 0 by omega⟩
    | ⟨1, _⟩ => exact ⟨r.val / 16, show r.val / 16 < 32 by omega, show r.val = (o.val * 16 + r.val % 16) % 16 + 16 * (r.val / 16) by omega⟩
    | ⟨2, _⟩ => exact ⟨l.val, l.isLt, show l.val = 0 + 1 * l.val by omega⟩

end Cert.Ffn.Stage

end
-- ==== Proof.FfnPoint.lean ====
/-
  What the feed-forward kernel leaves at each grid point, read off its run: the rows it writes back, the rows it keeps for the next
  point, and the two rows it writes out at the last.
-/
module

public import proofs.«01_k».proof.Proof.FfnBlock
public import proofs.«01_k».proof.Proof.FfnHolds
public import proofs.«01_k».proof.Proof.FfnStage
public import proofs.«01_k».proof.Proof.Gen.Kernel2Ideal.Value
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Ffn.Point

open Idealize.ShloMosaic Idealize.ShloMosaic.TcCoe Idealize.SL.Sem
open Cert.Kernel2Ideal Cert.Kernel2Ideal.Gen
open Cert.Ffn.Block (at_)

variable (m : (ℓ : Loc nD τ sig) → Buf (Elt Ideal) ℓ)

/-- The staged read-out at point `t`, by chunk, row within sixteen, position and lane. -/
abbrev staged (c : Dev nD) (t : Fin cfg0.N) (o : Fin 4) (q : Fin 16) (n : Fin 32) (l : Fin 128) : EReal :=
  iblk m c 1 t (ix2 n (⟨(o.val * 16 + q) * 128 + l, by omega⟩ : Fin 8192))

variable (A : Layer) (c : Dev nD)

/-- The newest store, read at a place its rectangle holds. -/
theorem canon_hit {S : Shape} {e : EltTy} (r : Rect S) (w : r.shape.Idx → Elt Ideal e) (L : List (View.Piece (Elt Ideal) S e)) (x : r.shape.Idx) (y : S.Idx)
    (hx : ∀ a, (y a).val = r.off a + r.stride a * (x a).val) : View.canon ((⟨r, w⟩ : View.Piece (Elt Ideal) S e) :: L) y = w x := by
  rw [← r.emb_eq_of_coords x y hx]
  exact View.canon_cons_emb r w L x

/-- The chunk `o` of the staged read-out, after the stores `L`. -/
abbrev chunk (L : List (View.Piece (Elt Ideal) S4x512x128 .f32)) (off : Fin 3 → ℕ) (inb : ∀ a, off a + (![1, 512, 128] : Fin 3 → ℕ) a ≤ S4x512x128.size a) :
    FVec Ideal S1x512x128 .f32 :=
  (View.whole cc0_scratch1).readCov L (Rect.unit (s := S4x512x128) off ![1, 512, 128] inb).toLoadRect

theorem lane (t : Fin cfg0.N) (n : Fin 32) {a b : ℕ} (h : a = b) (ha : a < 8192) (hb : b < 8192) :
    iblk m c 1 t (ix2 n (⟨a, ha⟩ : Fin 8192)) = iblk m c 1 t (ix2 n (⟨b, hb⟩ : Fin 8192)) := by subst h; rfl

theorem chunk_eq (t : Fin cfg0.N) (H : Holds m A c t) (L : List (View.Piece (Elt Ideal) S4x512x128 .f32)) (hS : Stage.Stores (staged m c t) 64 L)
    (o : Fin 4) (inb : ∀ a, (![o.val, 0, 0] : Fin 3 → ℕ) a + (![1, 512, 128] : Fin 3 → ℕ) a ≤ S4x512x128.size a) (r : Fin 512) (k : Fin 128) :
    chunk L ![o.val, 0, 0] inb (ix3 (0 : Fin 1) r k) = A.ys (at_ (num t) r) ⟨o.val * 128 + k, by omega⟩ := by
  refine (congrFun (View.readCov_eq_canon' _ _ _) _).trans ?_
  refine Eq.trans (congrArg (View.canon L) (a₂ := ix3 o r k) (funext fun a => Fin.ext ?_)) ?_
  · match a with
    | ⟨0, _⟩ => exact (show o.val + 1 * 0 = o.val by omega)
    | ⟨1, _⟩ => exact (show 0 + 1 * r.val = r.val by omega)
    | ⟨2, _⟩ => exact (show 0 + 1 * k.val = k.val by omega)
  · exact (hS.read (staged m c t) L o r k).trans (H.ys o r k)

theorem exists_of {Q : Block.Ops → Prop} (t : Fin cfg0.N) (H : Holds m A c t) (L : List (View.Piece (Elt Ideal) S4x512x128 .f32)) (d : FVec Ideal S1x512 .f32) (u : FVec Ideal S512x512 .f32)
    (wGlu : FVec Ideal S512x512 .bf16) (bGlu : FVec Ideal S1x512 .f32) (w1 : FVec Ideal S512x1024 .bf16) (b : FVec Ideal S512x512 .bf16)
    (w2 : FVec Ideal S512x1024 .bf16) (x : FVec Ideal S512x1024 .f32) (g1 norm shift scale : FVec Ideal S1x1024 .f32)
    (wa wg : FVec Ideal S1x1024x2816 .bf16) (c0 c1 : FVec Ideal S1x2816 .f32) (cb cw0 cw1 cw2 : FVec Ideal S1x1x2816 .f32)
    (wd : FVec Ideal S1x2816x1024 .bf16) (g2 : FVec Ideal S1x1024 .f32)
    (hQ : Q ⟨chunk L ![0, 0, 0] inb_S4x512x128_S1x512x128_0_0_0, chunk L ![1, 0, 0] inb_S4x512x128_S1x512x128_1_0_0,
      chunk L ![2, 0, 0] inb_S4x512x128_S1x512x128_2_0_0, chunk L ![3, 0, 0] inb_S4x512x128_S1x512x128_3_0_0,
      d, u, wGlu, bGlu, w1, b, w2, x, g1, norm, shift, scale, wa, wg, c0, c1, cb, cw0, cw1, cw2, wd, g2⟩)
    (hS : Stage.Stores (staged m c t) 64 L)
    (h_d : ∀ j : Fin 512, d (ix2 (0 : Fin 1) j) = A.d j)
    (h_u : ∀ r j : Fin 512, u (ix2 r j) = A.u (at_ (num t) r) j)
    (h_wGlu : ∀ k j : Fin 512, wGlu (ix2 k j) = A.wGlu k j)
    (h_bGlu : ∀ j : Fin 512, bGlu (ix2 (0 : Fin 1) j) = A.bGlu j)
    (h_w1 : ∀ (k : Fin 512) (l : Fin 1024), w1 (ix2 k l) = A.wOut ⟨k, by omega⟩ l)
    (h_b : ∀ r j : Fin 512, b (ix2 r j) = A.b (at_ (num t) r) j)
    (h_w2 : ∀ (k : Fin 512) (l : Fin 1024), w2 (ix2 k l) = A.wOut ⟨512 + k, by omega⟩ l)
    (h_x : ∀ (r : Fin 512) (l : Fin 1024), x (ix2 r l) = A.x (at_ (num t) r) l)
    (h_g1 : ∀ l : Fin 1024, g1 (ix2 (0 : Fin 1) l) = A.mod ⟨2048 + l, by omega⟩)
    (h_norm : ∀ l : Fin 1024, norm (ix2 (0 : Fin 1) l) = A.norm l)
    (h_shift : ∀ l : Fin 1024, shift (ix2 (0 : Fin 1) l) = A.mod ⟨3072 + l, by omega⟩)
    (h_scale : ∀ l : Fin 1024, scale (ix2 (0 : Fin 1) l) = A.mod ⟨4096 + l, by omega⟩)
    (h_wa : ∀ (k : Fin 1024) (j : Fin 2816), wa (ix3 (0 : Fin 1) k j) = A.wUp k ⟨j, by omega⟩)
    (h_wg : ∀ (k : Fin 1024) (j : Fin 2816), wg (ix3 (0 : Fin 1) k j) = A.wUp k ⟨2816 + j, by omega⟩)
    (h_c0 : ∀ j : Fin 2816, c0 (ix2 (0 : Fin 1) j) = A.padded (t.val * 512) j)
    (h_c1 : ∀ j : Fin 2816, c1 (ix2 (0 : Fin 1) j) = A.padded (t.val * 512 + 1) j)
    (h_cb : ∀ j : Fin 2816, cb (ix3 (0 : Fin 1) (0 : Fin 1) j) = A.convB j)
    (h_cw0 : ∀ j : Fin 2816, cw0 (ix3 (0 : Fin 1) (0 : Fin 1) j) = A.convW 0 j)
    (h_cw1 : ∀ j : Fin 2816, cw1 (ix3 (0 : Fin 1) (0 : Fin 1) j) = A.convW 1 j)
    (h_cw2 : ∀ j : Fin 2816, cw2 (ix3 (0 : Fin 1) (0 : Fin 1) j) = A.convW 2 j)
    (h_wd : ∀ (k : Fin 2816) (l : Fin 1024), wd (ix3 (0 : Fin 1) k l) = A.wDown k l)
    (h_g2 : ∀ l : Fin 1024, g2 (ix2 (0 : Fin 1) l) = A.mod ⟨5120 + l, by omega⟩) :
    ∃ O : Block.Ops, O.Agree A (num t) ∧ Q O :=
  ⟨_, ⟨chunk_eq m A c t H L hS 0 _, chunk_eq m A c t H L hS 1 _, chunk_eq m A c t H L hS 2 _, chunk_eq m A c t H L hS 3 _, h_d, h_u, h_wGlu, h_bGlu, h_w1, h_b, h_w2, h_x, h_g1, h_norm, h_shift, h_scale, h_wa, h_wg, h_c0, h_c1, h_cb, h_cw0, h_cw1, h_cw2, h_wd, h_g2⟩, hQ⟩

set_option maxHeartbeats 1000000 in
/-- A point after the first, where the carry holds the two rows before the block. -/
theorem later (t : Fin cfg0.N) (h0 : ¬ t.val % 32 = 0) (H : Holds m A c t)
    (hc : ∀ (a : Fin 2) (j : Fin 2816),
      (outsAt0 m c (t.val - 1) (Nat.lt_of_le_of_lt (Nat.sub_le _ _) t.isLt)).2.2 (ix2 (⟨a, by omega⟩ : Fin 8) j) = A.padded (t.val * 512 + a) j) :
    ∃ O : Block.Ops, O.Agree A (num t) ∧ (∀ (r : Fin 512) (l : Fin 1024), (outsAt0 m c t.val t.isLt).1 (ix2 r l) = O.out (ix2 r l))
      ∧ (∀ (a : Fin 2) (j : Fin 2816), (outsAt0 m c t.val t.isLt).2.1 (ix2 a j) = O.kept (ix2 a j))
      ∧ ∀ (a : Fin 2) (j : Fin 2816), (outsAt0 m c t.val t.isLt).2.2 (ix2 (⟨a, by omega⟩ : Fin 8) j) = O.kept (ix2 a j) := by
  apply exists_of m A c t H
  case hQ =>
    refine ⟨?out, ?tail, ?kept⟩
    case out =>
      intro r l
      rw [outsAt0_B m c t h0]
      frame_out
      simp only [Block.Ops.out, Block.Ops.h]
      with_reducible rfl
    case tail =>
      intro a j
      rw [outsAt0_B m c t h0]
      frame_out
      refine (congrFun (View.readCov_cons_toLoadRect _ _ _ _) _).trans ?_
      simp only [Block.Ops.kept, Block.Ops.h]
    case kept =>
      intro a j
      rw [outsAt0_B m c t h0]
      frame_out
      refine (View.read_writes_cons_hit_of_coords _ _ _ _ _ (ix2 a j) _ fun d => ?_).trans ?_
      · match d with
        | ⟨0, _⟩ => exact (show a.val = 0 + 1 * a.val by omega)
        | ⟨1, _⟩ => exact (show j.val = 0 + 1 * j.val by omega)
      simp only [Block.Ops.kept, Block.Ops.h]
  case hS =>
    repeat (refine ⟨_, _, rfl, fun n l => ?_, ?_⟩; focus (pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]; exact lane m c t n (by omega) _ _))
    rfl
  case h_d => intros; exact H.d _
  case h_u => intros; exact H.u _ _
  case h_wGlu => intros; exact H.wGlu _ _
  case h_bGlu => intros; exact H.bGlu _
  case h_w1 =>
    intros
    pointwise
    exact H.wOut _ _
  case h_b => intros; exact H.b _ _
  case h_w2 =>
    intros
    pointwise
    exact H.wOut _ _
  case h_x => intros; exact H.x _ _
  case h_g1 =>
    intros
    pointwise
    exact H.mod1 _
  case h_norm => intros; exact H.norm _
  case h_shift =>
    intros
    pointwise
    exact H.mod _
  case h_scale =>
    intros
    pointwise
    exact H.mod _
  case h_wa =>
    intros
    pointwise
    exact H.wUp _ _
  case h_wg =>
    intros
    pointwise
    exact H.wUp _ _
  case h_c0 =>
    intro j
    rw [read_unread_whole]
    pointwise
    exact hc 0 j
  case h_c1 =>
    intro j
    rw [read_unread_whole]
    pointwise
    exact hc 1 j
  case h_cb => intros; exact H.convB _
  case h_cw0 =>
    intros
    pointwise
    exact H.convW _ _
  case h_cw1 =>
    intros
    pointwise
    exact H.convW _ _
  case h_cw2 =>
    intros
    pointwise
    exact H.convW _ _
  case h_wd => intros; exact H.wDown _ _
  case h_g2 =>
    intros
    pointwise
    exact H.mod _

set_option maxHeartbeats 1000000 in
/-- The first point, where the carry is zero. -/
theorem first (t : Fin cfg0.N) (h0 : t.val % 32 = 0) (H : Holds m A c t) :
    ∃ O : Block.Ops, O.Agree A (num t) ∧ (∀ (r : Fin 512) (l : Fin 1024), (outsAt0 m c t.val t.isLt).1 (ix2 r l) = O.out (ix2 r l))
      ∧ (∀ (a : Fin 2) (j : Fin 2816), (outsAt0 m c t.val t.isLt).2.1 (ix2 a j) = O.kept (ix2 a j))
      ∧ ∀ (a : Fin 2) (j : Fin 2816), (outsAt0 m c t.val t.isLt).2.2 (ix2 (⟨a, by omega⟩ : Fin 8) j) = O.kept (ix2 a j) := by
  apply exists_of m A c t H
  case hQ =>
    refine ⟨?out, ?tail, ?kept⟩
    case out =>
      intro r l
      rw [outsAt0_A m c t h0]
      frame_out
      simp only [Block.Ops.out, Block.Ops.h]
      with_reducible rfl
    case tail =>
      intro a j
      rw [outsAt0_A m c t h0]
      frame_out
      refine (congrFun (View.readCov_cons_toLoadRect _ _ _ _) _).trans ?_
      simp only [Block.Ops.kept, Block.Ops.h]
    case kept =>
      intro a j
      rw [outsAt0_A m c t h0]
      frame_out
      refine (canon_hit _ _ _ (ix2 a j) _ fun d => ?_).trans ?_
      · match d with
        | ⟨0, _⟩ => exact (show a.val = 0 + 1 * a.val by omega)
        | ⟨1, _⟩ => exact (show j.val = 0 + 1 * j.val by omega)
      simp only [Block.Ops.kept, Block.Ops.h]
  case hS =>
    repeat (refine ⟨_, _, rfl, fun n l => ?_, ?_⟩; focus (pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]; exact lane m c t n (by omega) _ _))
    rfl
  case h_d => intros; exact H.d _
  case h_u => intros; exact H.u _ _
  case h_wGlu => intros; exact H.wGlu _ _
  case h_bGlu => intros; exact H.bGlu _
  case h_w1 =>
    intros
    pointwise
    exact H.wOut _ _
  case h_b => intros; exact H.b _ _
  case h_w2 =>
    intros
    pointwise
    exact H.wOut _ _
  case h_x => intros; exact H.x _ _
  case h_g1 =>
    intros
    pointwise
    exact H.mod1 _
  case h_norm => intros; exact H.norm _
  case h_shift =>
    intros
    pointwise
    exact H.mod _
  case h_scale =>
    intros
    pointwise
    exact H.mod _
  case h_wa =>
    intros
    pointwise
    exact H.wUp _ _
  case h_wg =>
    intros
    pointwise
    exact H.wUp _ _
  case h_c0 =>
    intro j
    refine (congrFun (View.readCov_eq_canon' _ _ _) _).trans ?_
    refine (congrFun (View.canon_cons_unit_lit _ _ _ (by decide)) _).trans ?_
    pointwise [k0_pay2]
    exact (A.padded_lt _ (by have := (num t).isLt; simp only [num] at this; omega) j).symm
  case h_c1 =>
    intro j
    refine (congrFun (View.readCov_eq_canon' _ _ _) _).trans ?_
    refine (congrFun (View.canon_cons_unit_lit _ _ _ (by decide)) _).trans ?_
    pointwise [k0_pay2]
    exact (A.padded_lt _ (by have := (num t).isLt; simp only [num] at this; omega) j).symm
  case h_cb => intros; exact H.convB _
  case h_cw0 =>
    intros
    pointwise
    exact H.convW _ _
  case h_cw1 =>
    intros
    pointwise
    exact H.convW _ _
  case h_cw2 =>
    intros
    pointwise
    exact H.convW _ _
  case h_wd => intros; exact H.wDown _ _
  case h_g2 =>
    intros
    pointwise
    exact H.mod _

end Cert.Ffn.Point

end
-- ==== Proof.FfnValue.lean ====
/-
  What the feed-forward program leaves in its two results: the layer's output rows, and the last two rows of the gate that the next
  call's convolution starts from.
-/
module

public import proofs.«01_k».proof.Proof.FfnPoint

@[expose] public section

set_option maxRecDepth 16384

noncomputable section

namespace Cert.Ffn.Point

open Idealize.ShloMosaic Idealize.ShloMosaic.TcCoe Idealize.SL.Sem
open Cert.Kernel2Ideal Cert.Kernel2Ideal.Gen Cert.Kernel2Ideal.Value
open Cert.Ffn.Block (at_)

variable (m : (ℓ : Loc nD τ sig) → Buf (Elt Ideal) ℓ) (c : Dev nD)

/-- At a grid point: its rows of the result, its last two gate rows written out, and the same two rows kept for the next point. -/
theorem point (n : ℕ) : ∀ h : n < cfg0.N,
    (∀ (r : Fin 512) (l : Fin 1024), (outsAt0 m c n h).1 (ix2 r l) = (layer m c).out (at_ (num ⟨n, h⟩) r) l)
      ∧ (∀ (a : Fin 2) (j : Fin 2816), (outsAt0 m c n h).2.1 (ix2 a j) = (layer m c).padded ((n + 1) * 512 + a) j)
      ∧ ∀ (a : Fin 2) (j : Fin 2816), (outsAt0 m c n h).2.2 (ix2 (⟨a, by omega⟩ : Fin 8) j) = (layer m c).padded ((n + 1) * 512 + a) j := by
  induction n with
  | zero =>
    intro h
    obtain ⟨O, hO, h₁, h₂, h₃⟩ := first m (layer m c) c ⟨0, h⟩ rfl (holds m c ⟨0, h⟩)
    exact ⟨fun r l => (h₁ r l).trans (hO.out_eq r l), fun a j => (h₂ a j).trans (hO.kept_eq a j), fun a j => (h₃ a j).trans (hO.kept_eq a j)⟩
  | succ n ih =>
    intro h
    have hn : n + 1 < 32 := h
    obtain ⟨O, hO, h₁, h₂, h₃⟩ := later m (layer m c) c ⟨n + 1, h⟩ (by show ¬ (n + 1) % 32 = 0; omega) (holds m c ⟨n + 1, h⟩)
      (fun a j => (ih (by omega)).2.2 a j)
    exact ⟨fun r l => (h₁ r l).trans (hO.out_eq r l), fun a j => (h₂ a j).trans (hO.kept_eq a j), fun a j => (h₃ a j).trans (hO.kept_eq a j)⟩

/-- The first result holds the layer's output, row by row. -/
theorem rows_eq : G15 m c = fun i : S16384x1024.Idx => (layer m c).out (i 0) (i 1) := by
  rw [← final15]
  refine (dats m 0 c).arrAt_eq_of_covers 15 _ (by decide +kernel) fun t _ y => ?_
  blk_simp
  rw [after0_15]
  idx_vars y
  have e : ((View.whole main_v23_0).slice (win0_15.rect t)).emb (ix2 y0 y1) = ix2 (at_ (num t) y0) y1 := by
    unfold at_ num
    blk_ext [idx t]
  rw [e]
  exact (point m c t.val t.isLt).1 y0 y1

/-- The last grid point. -/
def final : Fin cfg0.N := ⟨31, by decide⟩

/-- The second result holds the gate's last two rows. -/
theorem tail_eq : G16 m c = fun i : S2x2816.Idx => (layer m c).padded (16384 + (i 0).val) (i 1) := by
  rw [← final16]
  refine (dats m 0 c).arrAt_eq_of_after_last 16 final (by decide +kernel) _ fun y => ?_
  blk_simp
  rw [after0_16]
  idx_vars y
  refine ((point m c final.val final.isLt).2.1 y0 y1).trans ?_
  have e : (final.val + 1) * 512 = 16384 := rfl
  rw [e]

end Cert.Ffn.Point

end
-- ==== Proof.FfnClaim.lean ====
/-
  The feed-forward program and its reference leave the same two results on every device.
-/
module

public import proofs.«01_k».proof.Proof.Frames
public import proofs.«01_k».proof.Proof.FfnRef
public import proofs.«01_k».proof.Proof.FfnValue

@[expose] public section

set_option maxRecDepth 16384

noncomputable section

namespace Cert.Ffn

open Idealize.ShloMosaic Idealize.ShloMosaic.TcCoe Idealize.SL.Sem

section

open Cert.Kernel2Ideal

/-- The layer whose arrays are these buffers. -/
def ofArrays (a0 : FVec Ideal S1x16384x1024 .f32) (a1 a2 a3 : FVec Ideal S1x16384x512 .f32) (a4 : FVec Ideal S1x6144 .f32)
    (a5 : FVec Ideal S1x512 .f32) (a6 : FVec Ideal S1x512x512 .f32) (a7 : FVec Ideal S1x512 .f32) (a8 : FVec Ideal S1x1024x1024 .f32)
    (a9 : FVec Ideal S2x2x1024 .f32) (a10 : FVec Ideal S2x1024x5632 .f32) (a11 : FVec Ideal S2x3x2816 .f32) (a12 : FVec Ideal S2x2816 .f32)
    (a13 : FVec Ideal S2x2816x1024 .f32) : Layer where
  x r l := a0 (ix3 0 r l)
  ys r j := a1 (ix3 0 r j)
  u r j := a2 (ix3 0 r j)
  b r j := a3 (ix3 0 r j)
  mod l := a4 (ix2 0 l)
  d j := a5 (ix2 0 j)
  wGlu k j := a6 (ix3 0 k j)
  bGlu j := a7 (ix2 0 j)
  wOut k l := a8 (ix3 0 k l)
  norm l := a9 (ix3 0 1 l)
  wUp k j := a10 (ix3 0 k j)
  convW a j := a11 (ix3 0 a j)
  convB j := a12 (ix2 0 j)
  wDown k l := a13 (ix3 0 k l)

theorem ofArrays_congr {a0 b0 : FVec Ideal S1x16384x1024 .f32} {a1 b1 a2 b2 a3 b3 : FVec Ideal S1x16384x512 .f32} {a4 b4 : FVec Ideal S1x6144 .f32}
    {a5 b5 : FVec Ideal S1x512 .f32} {a6 b6 : FVec Ideal S1x512x512 .f32} {a7 b7 : FVec Ideal S1x512 .f32} {a8 b8 : FVec Ideal S1x1024x1024 .f32}
    {a9 b9 : FVec Ideal S2x2x1024 .f32} {a10 b10 : FVec Ideal S2x1024x5632 .f32} {a11 b11 : FVec Ideal S2x3x2816 .f32} {a12 b12 : FVec Ideal S2x2816 .f32}
    {a13 b13 : FVec Ideal S2x2816x1024 .f32} (h0 : a0 = b0) (h1 : a1 = b1) (h2 : a2 = b2) (h3 : a3 = b3) (h4 : a4 = b4) (h5 : a5 = b5)
    (h6 : a6 = b6) (h7 : a7 = b7) (h8 : a8 = b8) (h9 : a9 = b9) (h10 : a10 = b10) (h11 : a11 = b11) (h12 : a12 = b12) (h13 : a13 = b13) :
    ofArrays a0 a1 a2 a3 a4 a5 a6 a7 a8 a9 a10 a11 a12 a13 = ofArrays b0 b1 b2 b3 b4 b5 b6 b7 b8 b9 b10 b11 b12 b13 := by
  subst h0 h1 h2 h3 h4 h5 h6 h7 h8 h9 h10 h11 h12 h13
  rfl

end

/-- From equal arguments the program and its reference leave equal results. -/
theorem claim : Cert.algebraic_Kernel2Ideal_Reference2Ideal := by
  intro m g m' g' _ h
  have e : ∀ c : Dev Cert.Kernel2Ideal.nD, Ref.layer (StableHlo.launchContents m' c) = Point.layer m c := fun c => by
    obtain ⟨h0, h1, h2, h3, h4, h5, h6, h7, h8, h9, h10, h11, h12, h13⟩ := h c
    exact ofArrays_congr h0 h1 h2 h3 h4 h5 h6 h7 h8 h9 h10 h11 h12 h13
  refine ⟨fun c => Cert.Kernel2Ideal.Value.G15 m c, fun c => Cert.Kernel2Ideal.Value.G16 m c, Cert.Kernel2Ideal.Value.run m g,
    (θ_run _ _ _).mono (fun r hr c => ⟨(hr c).1.trans ?_, (hr c).2.1.trans ?_, (hr c).2.2⟩) (Cert.Reference2Ideal.Value.run (F := Ideal) m' g')⟩
  · refine Eq.trans ?_ (Point.rows_eq m c).symm
    funext i
    idx_vars i
    exact (Ref.out_eq _ _ _).trans (by rw [e c])
  · refine Eq.trans ?_ (Point.tail_eq m c).symm
    funext i
    idx_vars i
    exact (Ref.tail_eq _ _ _).trans (by rw [e c])

end Cert.Ffn

end
-- ==== Proof.MergeRow.lean ====
/-
  The merge of the three attention branches, the feed-forward and the last norm, one row and one lane at a time, over the extended
  reals: what both the kernel and the reference compute.
-/
module

public import proofs.«01_k».proof.Proof.FfnRow

@[expose] public section

noncomputable section

namespace Cert.Merge

open Idealize.ShloMosaic
open Cert.Ffn (gelu)

/-- The arrays of the layer: the residual `x`, the branches' outputs `o1`, `o4`, `o16` and statistics `s1`, `s4`, `s16` (lane `h` the
    largest score of head `h`, lane `16 + h` its softmax denominator), the modulation `mod`, and the layer's weights. -/
structure Layer where
  x : Fin 16384 → Fin 1024 → EReal
  o1 : Fin 16384 → Fin 1024 → EReal
  s1 : Fin 16384 → Fin 128 → EReal
  o4 : Fin 16384 → Fin 1024 → EReal
  s4 : Fin 16384 → Fin 128 → EReal
  o16 : Fin 16384 → Fin 1024 → EReal
  s16 : Fin 16384 → Fin 128 → EReal
  mod : Fin 6144 → EReal
  wO : Fin 1024 → Fin 1024 → EReal
  norm : Fin 1024 → EReal
  wUp : Fin 1024 → Fin 5632 → EReal
  convW : Fin 3 → Fin 2816 → EReal
  convB : Fin 2816 → EReal
  wDown : Fin 2816 → Fin 1024 → EReal
  last : Fin 1024 → EReal

namespace Layer

variable (A : Layer)

/-- The largest score of a head over the branches. -/
def top (r : Fin 16384) (h : Fin 16) : EReal := max (max (A.s1 r ⟨h, by omega⟩) (A.s4 r ⟨h, by omega⟩)) (A.s16 r ⟨h, by omega⟩)

/-- The weight of a branch whose statistics are `s`. -/
def weight (s : Fin 16384 → Fin 128 → EReal) (r : Fin 16384) (h : Fin 16) : EReal :=
  s r ⟨16 + h, by omega⟩ * Ideal.exp2 (s r ⟨h, by omega⟩ - A.top r h)

/-- The three weights' sum. -/
def total (r : Fin 16384) (h : Fin 16) : EReal := A.weight A.s1 r h + A.weight A.s4 r h + A.weight A.s16 r h

/-- The head of a lane. -/
abbrev head (l : Fin 1024) : Fin 16 := ⟨l / 64, by omega⟩

/-- The merged attention output: the branches' outputs, averaged by the weights. -/
def att (r : Fin 16384) (l : Fin 1024) : EReal :=
  Ideal.div (A.weight A.s1 r (head l) * A.o1 r l + A.weight A.s4 r (head l) * A.o4 r l + A.weight A.s16 r (head l) * A.o16 r l)
    (A.total r (head l))

/-- The residual after the mixer. -/
def mixed (r : Fin 16384) (l : Fin 1024) : EReal := A.x r l + A.mod ⟨2048 + l, by omega⟩ * ∑ k, A.att r k * A.wO k l

/-- The normalised and modulated row. -/
def h (r : Fin 16384) (l : Fin 1024) : EReal :=
  A.mixed r l * Ideal.rsqrt (Ideal.div (∑ k, A.mixed r k * A.mixed r k) (Ideal.ofBits .f32 0x44800000#32) + Ideal.ofBits .f32 0x358637BD#32)
    * A.norm l * (1 + A.mod ⟨4096 + l, by omega⟩) + A.mod ⟨3072 + l, by omega⟩

/-- The up-projection. -/
def up (r : Fin 16384) (j : Fin 5632) : EReal := ∑ k, A.h r k * A.wUp k j

/-- The convolution's input at row `n`, two rows of zeros before the first. -/
def padded (n : ℕ) (j : Fin 2816) : EReal := if h : 2 ≤ n ∧ n < 16386 then A.up ⟨n - 2, by omega⟩ ⟨j, by omega⟩ else 0

/-- The causal convolution of width three. -/
def conv (r : Fin 16384) (j : Fin 2816) : EReal :=
  A.convB j + A.convW 0 j * A.padded r j + A.convW 1 j * A.padded (r + 1) j + A.convW 2 j * A.padded (r + 2) j

/-- The residual after the feed-forward. -/
def res (r : Fin 16384) (l : Fin 1024) : EReal :=
  A.mixed r l + A.mod ⟨5120 + l, by omega⟩ * ∑ k, gelu (A.conv r k) * A.up r ⟨2816 + k, by omega⟩ * A.wDown k l

/-- The layer's output: the residual, normalised. -/
def out (r : Fin 16384) (l : Fin 1024) : EReal :=
  A.res r l * Ideal.rsqrt (Ideal.div (∑ k, A.res r k * A.res r k) (Ideal.ofBits .f32 0x44800000#32) + Ideal.ofBits .f32 0x358637BD#32)
    * A.last l

theorem padded_lt (n : ℕ) (h : n < 2) (j : Fin 2816) : A.padded n j = 0 := dif_neg (by omega)

theorem padded_add (r : Fin 16384) (j : Fin 2816) : A.padded (r + 2) j = A.up r ⟨j, by omega⟩ :=
  (dif_pos ⟨by omega, by omega⟩).trans rfl

/-- The statistics of a branch are usable: real numbers, the denominators above zero. -/
structure Usable (s : Fin 16384 → Fin 128 → EReal) : Prop where
  real : ∀ (r : Fin 16384) (k : Fin 128), k.val < 32 → ∃ y : ℝ, s r k = y
  pos : ∀ (r : Fin 16384) (h : Fin 16), 0 < s r ⟨16 + h, by omega⟩

/-- What the merge needs of its arrays: the branches' outputs are real numbers and their statistics usable. -/
structure Defined : Prop where
  o1 : ∀ (r : Fin 16384) (l : Fin 1024), ∃ y : ℝ, A.o1 r l = y
  s1 : Usable A.s1
  o4 : ∀ (r : Fin 16384) (l : Fin 1024), ∃ y : ℝ, A.o4 r l = y
  s4 : Usable A.s4
  o16 : ∀ (r : Fin 16384) (l : Fin 1024), ∃ y : ℝ, A.o16 r l = y
  s16 : Usable A.s16

variable {A}

theorem Defined.top_real (D : A.Defined) (r : Fin 16384) (h : Fin 16) : ∃ y : ℝ, A.top r h = y := by
  obtain ⟨a, ha⟩ := D.s1.real r ⟨h, by omega⟩ (by simp only; omega)
  obtain ⟨b, hb⟩ := D.s4.real r ⟨h, by omega⟩ (by simp only; omega)
  obtain ⟨c, hc⟩ := D.s16.real r ⟨h, by omega⟩ (by simp only; omega)
  refine ⟨max (max a b) c, ?_⟩
  unfold top
  have e : ∀ x y : ℝ, max (x : EReal) y = ((max x y : ℝ) : EReal) := fun x y => (EReal.coe_strictMono.monotone.map_max).symm
  rw [ha, hb, hc, e, e]

theorem Defined.weight_real (D : A.Defined) {s : Fin 16384 → Fin 128 → EReal} (S : Usable s) (r : Fin 16384) (h : Fin 16) :
    ∃ y : ℝ, 0 < y ∧ A.weight s r h = y := by
  obtain ⟨t, ht⟩ := D.top_real r h
  obtain ⟨a, ha⟩ := S.real r ⟨h, by omega⟩ (by simp only; omega)
  obtain ⟨d, hd⟩ := S.real r ⟨16 + h, by omega⟩ (by simp only; omega)
  have hp := S.pos r h
  rw [hd] at hp
  refine ⟨d * Real.rpow 2 (a - t), mul_pos (by exact_mod_cast hp) (Real.rpow_pos_of_pos (by norm_num) _), ?_⟩
  unfold weight
  rw [ha, hd, ht, ← EReal.coe_sub, Ideal.exp2_coe, EReal.coe_mul]

/-- The kernel's form of the merge: the last branch's output, moved towards the other two by their shares of the weight. -/
theorem Defined.blend (D : A.Defined) (r : Fin 16384) (l : Fin 1024) :
    A.o16 r l + Ideal.div (A.weight A.s1 r (head l)) (A.total r (head l)) * (A.o1 r l - A.o16 r l)
      + Ideal.div (A.weight A.s4 r (head l)) (A.total r (head l)) * (A.o4 r l - A.o16 r l) = A.att r l := by
  obtain ⟨a, ha⟩ := D.o1 r l
  obtain ⟨b, hb⟩ := D.o4 r l
  obtain ⟨c, hc⟩ := D.o16 r l
  obtain ⟨u, hu, hu'⟩ := D.weight_real D.s1 r (head l)
  obtain ⟨v, hv, hv'⟩ := D.weight_real D.s4 r (head l)
  obtain ⟨w, hw, hw'⟩ := D.weight_real D.s16 r (head l)
  have ht : u + v + w ≠ 0 := by positivity
  unfold att total
  rw [ha, hb, hc, hu', hv', hw', ← EReal.coe_add, ← EReal.coe_add, Ideal.div_coe ht, Ideal.div_coe ht, Ideal.div_coe ht]
  simp only [← EReal.coe_mul, ← EReal.coe_add, ← EReal.coe_sub]
  congr 1
  field_simp
  ring

/-- A share of the weight is a real number, so that it less itself is zero. -/
theorem Defined.share_sub (D : A.Defined) {s : Fin 16384 → Fin 128 → EReal} (S : Usable s) (r : Fin 16384) (h : Fin 16) :
    Ideal.div (A.weight s r h) (A.total r h) - Ideal.div (A.weight s r h) (A.total r h) = 0 := by
  obtain ⟨u, hu, hu'⟩ := D.weight_real D.s1 r h
  obtain ⟨v, hv, hv'⟩ := D.weight_real D.s4 r h
  obtain ⟨w, hw, hw'⟩ := D.weight_real D.s16 r h
  obtain ⟨y, _, hy⟩ := D.weight_real S r h
  have ht : u + v + w ≠ 0 := by positivity
  unfold total
  rw [hu', hv', hw', hy, ← EReal.coe_add, ← EReal.coe_add, Ideal.div_coe ht, ← EReal.coe_mul, ← EReal.coe_sub, sub_self, EReal.coe_zero]

end Layer

end Cert.Merge

end
-- ==== Proof.MergeDefined.lean ====
/-
  What the merge's precondition says of its arrays: the branches' outputs and statistics are real numbers, the denominators above
  zero.
-/
module

public import proofs.«01_k».proof.Defs
public import proofs.«01_k».proof.Proof.MergeRow
public import proofs.«01_k».proof.Proof.Gen.Pre_merge_defined
public import Idealize.ShloMosaic.Lib.Pointwise
public import Idealize.ShloMosaic.Lib.ReduceAll

@[expose] public section

set_option maxRecDepth 16384

noncomputable section

namespace Cert.Merge.Pre

open Idealize.ShloMosaic Idealize.ShloMosaic.TcCoe Idealize.SL.Sem
open Cert.Pre_merge_defined Cert.Pre_merge_defined.Facts

/-- A conjunction of two bits, each at its one index. -/
theorem both {a b : IVec S_ 1} {i : S_.Idx} (h : andi a b i = 1#1) : a i = 1#1 ∧ b i = 1#1 := IntOp.andi_eq_one.1 h

instance : Subsingleton S_.Idx := ⟨fun _ _ => funext fun a => a.elim0⟩

/-- The word of infinity. -/
theorem inf_word : Ideal.ofBits .f32 0x7F800000#32 = (⊤ : EReal) := by
  simp [Ideal.ofBits, Ideal.ieee]

/-- The word of zero. -/
theorem zero_word : Ideal.ofBits .f32 0x00000000#32 = (0 : EReal) := by
  simp [Ideal.ofBits, Ideal.ieee]

/-- A number whose absolute value is below infinity is real. -/
theorem real_of_abs {x : EReal} (h : max x (-x) < ⊤) : ∃ y : ℝ, x = y := by
  induction x with
  | bot => exact absurd h (by simp)
  | coe y => exact ⟨y, rfl⟩
  | top => exact absurd h (by simp)

theorem olt_of_eq_one {x y : EReal} (h : FloatOps.cmpf (F := Ideal) (φ := .f32) .olt x y = 1#1) : x < y := by
  by_contra hn
  have e : FloatOps.cmpf (F := Ideal) (φ := .f32) .olt x y = BitVec.ofBool (decide (x < y)) := rfl
  rw [e, decide_eq_false hn] at h
  exact absurd h (by decide)

theorem ogt_of_eq_one {x y : EReal} (h : FloatOps.cmpf (F := Ideal) (φ := .f32) .ogt x y = 1#1) : y < x := by
  by_contra hn
  have e : FloatOps.cmpf (F := Ideal) (φ := .f32) .ogt x y = BitVec.ofBool (decide (y < x)) := rfl
  rw [e, decide_eq_false hn] at h
  exact absurd h (by decide)

/-- All entries of an array of outputs are real. -/
theorem outputs_real (o : FVec Ideal S1x16384x1024 .f32) {i : S_.Idx}
    (h : Host.reduce IntOp.andi (cmpf .olt (Host.absf o) (broadcastInDim S1x16384x1024 ![] bcast_S_S1x16384x1024 (constant S_ .f32 0x7F800000#32)))
      (constantI S_ 1 1#1) reducesTo_S1x16384x1024_S_d0_1_2 h_S_ i = 1#1) (r : Fin 16384) (l : Fin 1024) : ∃ y : ℝ, o (ix3 0 r l) = y := by
  have e := olt_of_eq_one (Host.reduce_andi_all _ _ _ _ _ h (ix3 0 r l))
  refine real_of_abs (lt_of_lt_of_eq e ?_)
  exact inf_word

/-- The first 32 lanes of an array of statistics are real. -/
theorem stats_real (s : FVec Ideal S1x16384x128 .f32) {i : S_.Idx}
    (h : Host.reduce IntOp.andi (cmpf .olt (Host.absf (extractStridedSlice S1x16384x32 ![0, 0, 0] s slices_S1x16384x128_S1x16384x32_0_0_0))
      (broadcastInDim S1x16384x32 ![] bcast_S_S1x16384x32 (constant S_ .f32 0x7F800000#32)))
      (constantI S_ 1 1#1) reducesTo_S1x16384x32_S_d0_1_2 h_S_ i = 1#1) (r : Fin 16384) (k : Fin 128) (hk : k.val < 32) : ∃ y : ℝ, s (ix3 0 r k) = y := by
  have e := olt_of_eq_one (Host.reduce_andi_all _ _ _ _ _ h (ix3 0 r (⟨k, hk⟩ : Fin 32)))
  have e' := real_of_abs (lt_of_lt_of_eq e inf_word)
  have ei : (extractStridedSlice S1x16384x32 ![0, 0, 0] s slices_S1x16384x128_S1x16384x32_0_0_0) (ix3 0 r (⟨k, hk⟩ : Fin 32)) = s (ix3 0 r k) := by
    pointwise
  rw [ei] at e'
  exact e'

/-- The denominators are above zero. -/
theorem stats_pos (s : FVec Ideal S1x16384x128 .f32) {i : S_.Idx}
    (h : Host.reduce IntOp.andi (cmpf .ogt (extractStridedSlice S1x16384x16 ![0, 0, 16] s slices_S1x16384x128_S1x16384x16_0_0_16)
      (broadcastInDim S1x16384x16 ![] bcast_S_S1x16384x16 (constant S_ .f32 0x00000000#32)))
      (constantI S_ 1 1#1) reducesTo_S1x16384x16_S_d0_1_2 h_S_ i = 1#1) (r : Fin 16384) (k : Fin 16) : 0 < s (ix3 0 r (⟨16 + k, by omega⟩ : Fin 128)) := by
  have e := ogt_of_eq_one (Host.reduce_andi_all _ _ _ _ _ h (ix3 0 r k))
  have ei : (extractStridedSlice S1x16384x16 ![0, 0, 16] s slices_S1x16384x128_S1x16384x16_0_0_16) (ix3 0 r k) = s (ix3 0 r (⟨16 + k, by omega⟩ : Fin 128)) := by
    pointwise
  rw [ei] at e
  exact lt_of_eq_of_lt zero_word.symm e

/-- The precondition, read as facts of the arrays. -/
theorem defined (A : Layer) (a0 a1 a3 a5 : FVec Ideal S1x16384x1024 .f32) (a2 a4 a6 : FVec Ideal S1x16384x128 .f32) (a7 : FVec Ideal S1x6144 .f32)
    (a8 : FVec Ideal S1x1024x1024 .f32) (a9 : FVec Ideal S2x2x1024 .f32) (a10 : FVec Ideal S2x1024x5632 .f32) (a11 : FVec Ideal S2x3x2816 .f32)
    (a12 : FVec Ideal S2x2816 .f32) (a13 : FVec Ideal S2x2816x1024 .f32) (a14 : FVec Ideal S1024 .f32)
    (h1 : ∀ r l, A.o1 r l = a1 (ix3 0 r l)) (h2 : ∀ r k, A.s1 r k = a2 (ix3 0 r k)) (h3 : ∀ r l, A.o4 r l = a3 (ix3 0 r l))
    (h4 : ∀ r k, A.s4 r k = a4 (ix3 0 r k)) (h5 : ∀ r l, A.o16 r l = a5 (ix3 0 r l)) (h6 : ∀ r k, A.s16 r k = a6 (ix3 0 r k))
    (h : Cert.Pre_merge_defined.fn (F := Ideal) a0 a1 a2 a3 a4 a5 a6 a7 a8 a9 a10 a11 a12 a13 a14 = fun _ => 1#1) : A.Defined := by
  have h := congrFun h (fun a => a.elim0)
  unfold fn fn_part1 fn_part2 at h
  obtain ⟨h, p6⟩ := both h
  obtain ⟨h, q6⟩ := both h
  obtain ⟨h, p4⟩ := both h
  obtain ⟨h, q4⟩ := both h
  obtain ⟨h, p2⟩ := both h
  obtain ⟨h, q2⟩ := both h
  obtain ⟨h, q5⟩ := both h
  obtain ⟨q1, q3⟩ := both h
  exact {
    o1 := fun r l => (outputs_real a1 q1 r l).imp fun _ e => (h1 r l).trans e
    o4 := fun r l => (outputs_real a3 q3 r l).imp fun _ e => (h3 r l).trans e
    o16 := fun r l => (outputs_real a5 q5 r l).imp fun _ e => (h5 r l).trans e
    s1 := ⟨fun r k hk => (stats_real a2 q2 r k hk).imp fun _ e => (h2 r k).trans e, fun r k => lt_of_lt_of_eq (stats_pos a2 p2 r k) (h2 r _).symm⟩
    s4 := ⟨fun r k hk => (stats_real a4 q4 r k hk).imp fun _ e => (h4 r k).trans e, fun r k => lt_of_lt_of_eq (stats_pos a4 p4 r k) (h4 r _).symm⟩
    s16 := ⟨fun r k hk => (stats_real a6 q6 r k hk).imp fun _ e => (h6 r k).trans e, fun r k => lt_of_lt_of_eq (stats_pos a6 p6 r k) (h6 r _).symm⟩ }

end Cert.Merge.Pre

end
-- ==== Proof.MergeRef.lean ====
/-
  The reference of the merge and the feed-forward computes `Layer.out` and the last two rows of the convolution's input.
-/
module

public import proofs.«01_k».proof.Proof.MergeRow
public import proofs.«01_k».proof.Proof.Gen.Reference3Ideal.Run
public import Idealize.ShloMosaic.Lib.Pointwise

@[expose] public section

set_option maxRecDepth 16384

noncomputable section

namespace Cert.Merge.Ref

open Idealize.ShloMosaic Idealize.ShloMosaic.TcCoe Idealize.SL.Sem
open Cert.Reference3Ideal Cert.Reference3Ideal.Gen Cert.Reference3Ideal.Value
open Cert.Ffn (gelu)

variable (V0 : Valuation τ sig (Elt Ideal))

/-- The reference's arguments as the layer's arrays. -/
def layer : Layer where
  x r l := (V0 (Proc.devRef .tc main_arg0) : FVec Ideal S1x16384x1024 .f32) (ix3 0 r l)
  o1 r l := (V0 (Proc.devRef .tc main_arg1) : FVec Ideal S1x16384x1024 .f32) (ix3 0 r l)
  s1 r k := (V0 (Proc.devRef .tc main_arg2) : FVec Ideal S1x16384x128 .f32) (ix3 0 r k)
  o4 r l := (V0 (Proc.devRef .tc main_arg3) : FVec Ideal S1x16384x1024 .f32) (ix3 0 r l)
  s4 r k := (V0 (Proc.devRef .tc main_arg4) : FVec Ideal S1x16384x128 .f32) (ix3 0 r k)
  o16 r l := (V0 (Proc.devRef .tc main_arg5) : FVec Ideal S1x16384x1024 .f32) (ix3 0 r l)
  s16 r k := (V0 (Proc.devRef .tc main_arg6) : FVec Ideal S1x16384x128 .f32) (ix3 0 r k)
  mod l := (V0 (Proc.devRef .tc main_arg7) : FVec Ideal S1x6144 .f32) (ix2 0 l)
  wO k l := (V0 (Proc.devRef .tc main_arg8) : FVec Ideal S1x1024x1024 .f32) (ix3 0 k l)
  norm l := (V0 (Proc.devRef .tc main_arg9) : FVec Ideal S2x2x1024 .f32) (ix3 1 1 l)
  wUp k j := (V0 (Proc.devRef .tc main_arg10) : FVec Ideal S2x1024x5632 .f32) (ix3 1 k j)
  convW a j := (V0 (Proc.devRef .tc main_arg11) : FVec Ideal S2x3x2816 .f32) (ix3 1 a j)
  convB j := (V0 (Proc.devRef .tc main_arg12) : FVec Ideal S2x2816 .f32) (ix2 1 j)
  wDown k l := (V0 (Proc.devRef .tc main_arg13) : FVec Ideal S2x2816x1024 .f32) (ix3 1 k l)
  last l := (V0 (Proc.devRef .tc main_arg14) : FVec Ideal S1024 .f32) (ix1 l)

/-- A power of the constant two is the base-two exponential. -/
theorem pow_two (x : EReal) : Ideal.pow (Ideal.ofBits .f32 0x40000000#32) x = Ideal.exp2 x := by
  have e : Ideal.ofBits .f32 0x40000000#32 = ((2 : ℝ) : EReal) := by
    simp [Ideal.ofBits, Ideal.ieee, -EReal.coe_mul]
    norm_num
  rw [e]
  induction x using EReal.rec with
  | bot => simp
  | coe x => simp
  | top => simp

theorem top_eq (r : Fin 16384) (h : Fin 16) : res_main_v17 V0 (ix3 (0 : Fin 1) r h) = (layer V0).top r h := by
  unfold Layer.top layer
  pointwise [res_main_v17, res_main_v8, res_main_v11, res_main_v14]

theorem weight1_eq (r : Fin 16384) (h : Fin 16) : res_main_v21 V0 (ix3 (0 : Fin 1) r h) = (layer V0).weight (layer V0).s1 r h := by
  unfold Layer.weight
  rw [← pow_two]
  pointwise [res_main_v21, res_main_v8, top_eq]
  rfl

theorem weight4_eq (r : Fin 16384) (h : Fin 16) : res_main_v25 V0 (ix3 (0 : Fin 1) r h) = (layer V0).weight (layer V0).s4 r h := by
  unfold Layer.weight
  rw [← pow_two]
  pointwise [res_main_v25, res_main_v11, top_eq]
  rfl

theorem weight16_eq (r : Fin 16384) (h : Fin 16) : res_main_v29 V0 (ix3 (0 : Fin 1) r h) = (layer V0).weight (layer V0).s16 r h := by
  unfold Layer.weight
  rw [← pow_two]
  pointwise [res_main_v29, res_main_v14, top_eq]
  rfl

theorem mixed_eq (r : Fin 16384) (l : Fin 1024) : res_main_v51 V0 (ix3 (0 : Fin 1) r l) = (layer V0).mixed r l := by
  unfold Layer.mixed Layer.att Layer.total
  pointwise [res_main_v51, res_main_v0, weight1_eq, weight4_eq, weight16_eq]
  rfl

theorem up_eq (r : Fin 16384) (j : Fin 5632) : res_main_v82 V0 (ix3 (0 : Fin 1) r j) = (layer V0).up r j := by
  unfold Layer.up Layer.h
  pointwise [res_main_v82, res_main_v0, mixed_eq]
  rfl

theorem padded_eq (n : Fin 16386) (j : Fin 2816) : res_main_v85 V0 (ix3 (0 : Fin 1) n j) = (layer V0).padded n j := by
  unfold Layer.padded
  pointwise [res_main_v85, up_eq]
  by_cases h : (n : ℕ) < 2
  · rw [dif_pos h, dif_neg (by omega)]
  · rw [dif_neg h, dif_pos (by omega)]

theorem conv_eq (r : Fin 16384) (j : Fin 2816) : res_main_v108 V0 (ix3 (0 : Fin 1) r j) = (layer V0).conv r j := by
  unfold Layer.conv
  pointwise [res_main_v108, res_main_v77, padded_eq]
  have e : ∀ a : ℕ, (layer V0).padded (a + r) j = (layer V0).padded (r + a) j := fun a => by rw [Nat.add_comm]
  rw [e 1, e 2]
  rfl

theorem res_eq (r : Fin 16384) (l : Fin 1024) : res_main_v127 V0 (ix3 (0 : Fin 1) r l) = (layer V0).res r l := by
  unfold Layer.res gelu
  pointwise [res_main_v127, res_main_v0, mixed_eq, conv_eq, up_eq]
  simp only [mul_assoc]
  rfl

/-- The reference's first result, at row `r` and lane `l`. -/
theorem out_eq (r : Fin 16384) (l : Fin 1024) :
    shapeCast S16384x1024 (mulf (mulf (res_main_v127 V0) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (res_main_v127 V0) (res_main_v127 V0)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (V0 (Proc.devRef .tc main_arg14))))) shapeCasts_S1x16384x1024_S16384x1024 (ix2 r l) = (layer V0).out r l := by
  unfold Layer.out
  pointwise [res_eq]
  rfl

/-- The reference's second result, at row `a` and lane `j`. -/
theorem tail_eq (a : Fin 2) (j : Fin 2816) :
    shapeCast S2x2816 (extractStridedSlice S1x2x2816 ![0, 16384, 0] (res_main_v85 V0) slices_S1x16386x2816_S1x2x2816_0_16384_0) shapeCasts_S1x2x2816_S2x2816 (ix2 a j)
      = (layer V0).padded (16384 + a) j := by
  pointwise [padded_eq]

end Cert.Merge.Ref

end
-- ==== Proof.MergeBlock.lean ====
/-
  What the second feed-forward kernel's body computes of the blocks it loads, one element at a time: if the blocks hold the layer's
  rows from row `o` on, each intermediate holds the layer's intermediate there.
-/
module

public import proofs.«01_k».proof.Proof.MergeRow
public import proofs.«01_k».proof.Proof.FfnBlock
public import proofs.«01_k».proof.Proof.Gen.Kernel3Ideal.Skeleton
public import Idealize.ShloMosaic.Lib.Pointwise

@[expose] public section

set_option maxRecDepth 16384

noncomputable section

namespace Cert.Merge.Block

open Idealize.ShloMosaic Idealize.ShloMosaic.TcCoe Idealize.SL.Sem
open Cert.Kernel3Ideal Cert.Kernel3Ideal.Gen
open Cert.Ffn (gelu)

/-- Row `r` of the block whose first row is `o`. -/
abbrev at_ (t : Fin 32) (r : Fin 512) : Fin 16384 := ⟨t.val * 512 + r, by omega⟩

variable (A : Layer) (t : Fin 32)

/-- The lanes' numbers. -/
abbrev lanes : IVec S512x128 32 := iota .tc S512x128 32 [1] iota_S512x128_d1_w32

/-- The rows' numbers. -/
abbrev rowNums : IVec S512x1 32 := iota .tc S512x1 32 [0] iota_S512x1_d0_w32

/-- Among the first sixteen lanes the choice takes the share. -/
theorem below {α : Type} (n : ℕ) (h : n < 16) (x y : α) : Scalar.select (IntOp.cmpi .slt (BitVec.ofNat 32 n) 16#32) x y = x := by
  have e : ∀ h : Fin 16, IntOp.cmpi .slt (BitVec.ofNat 32 h.val) 16#32 = 1#1 := by decide
  rw [e ⟨n, h⟩]
  rfl

theorem select_same {α : Type} (c : BitVec 1) (x : α) : Scalar.select c x x = x := by
  unfold Scalar.select
  split_ifs <;> rfl

/-- The statistics' blocks hold the layer's. -/
structure Stats (s1 : FVec Ideal S1x512x128 .f32) (s4 s16 : FVec Ideal S512x128 .f32) (sp1 sp4 : FVec Ideal S256x1024 .bf16) : Prop where
  s1 : ∀ (r : Fin 512) (k : Fin 128), s1 (ix3 (0 : Fin 1) r k) = A.s1 (at_ t r) k
  s4 : ∀ (r : Fin 512) (k : Fin 128), s4 (ix2 r k) = A.s4 (at_ t r) k
  s16 : ∀ (r : Fin 512) (k : Fin 128), s16 (ix2 r k) = A.s16 (at_ t r) k
  sp1 : ∀ (k : Fin 256) (l : Fin 1024), sp1 (ix2 k l) = if k.val % 128 = l.val / 64 then 1 else 0
  sp4 : ∀ (k : Fin 256) (l : Fin 1024), sp4 (ix2 k l) = if k.val % 128 = l.val / 64 then 1 else 0

section
variable {A t}
variable {s1 : FVec Ideal S1x512x128 .f32} {s4 s16 : FVec Ideal S512x128 .f32} {sp1 sp4 : FVec Ideal S256x1024 .bf16}

theorem Stats.w1 (H : Stats A t s1 s4 s16 sp1 sp4) (r : Fin 512) (h : Fin 16) :
    k0_pay325 (F := Ideal) s1 s4 s16 (ix2 r (⟨h, by omega⟩ : Fin 128)) = A.weight A.s1 (at_ t r) h := by
  have e : (h.val + 128 - 112) % 128 = 16 + h.val := by omega
  unfold Layer.weight Layer.top
  pointwise [k0_pay325, k0_pay324, k0_pay323]
  simp only [H.s1, H.s4, H.s16, e]
  rfl

theorem Stats.w4 (H : Stats A t s1 s4 s16 sp1 sp4) (r : Fin 512) (h : Fin 16) :
    k0_pay326 (F := Ideal) s1 s4 s16 (ix2 r (⟨h, by omega⟩ : Fin 128)) = A.weight A.s4 (at_ t r) h := by
  have e : (h.val + 128 - 112) % 128 = 16 + h.val := by omega
  unfold Layer.weight Layer.top
  pointwise [k0_pay326, k0_pay324, k0_pay323]
  simp only [H.s1, H.s4, H.s16, e]
  rfl

theorem Stats.total (H : Stats A t s1 s4 s16 sp1 sp4) (r : Fin 512) (h : Fin 16) :
    k0_pay327 (F := Ideal) s1 s4 s16 (ix2 r (⟨h, by omega⟩ : Fin 128)) = A.total (at_ t r) h := by
  have e : (h.val + 128 - 112) % 128 = 16 + h.val := by omega
  unfold Layer.total
  rw [← H.w1, ← H.w4]
  unfold Layer.weight Layer.top
  pointwise [k0_pay327, k0_pay324, k0_pay323]
  simp only [H.s1, H.s4, H.s16, e]
  rfl

/-- The first branch's share of the weight, at each lane. -/
theorem Stats.share1 (H : Stats A t s1 s4 s16 sp1 sp4) (D : A.Defined) (r : Fin 512) (l : Fin 1024) :
    k0_pay329 (F := Ideal) (k0_pay325 s1 s4 s16) (k0_pay327 s1 s4 s16) lanes k0_pay328 sp1 (ix2 r l)
      = Ideal.div (A.weight A.s1 (at_ t r) (Layer.head l)) (A.total (at_ t r) (Layer.head l)) := by
  pointwise [k0_pay329, k0_pay328]
  refine (congr (congrArg HAdd.hAdd (Finset.sum_eq_single (⟨l / 64, by omega⟩ : Fin 128) ?_ ?_)) (Finset.sum_eq_single (⟨l / 64, by omega⟩ : Fin 128) ?_ ?_)).trans ?_
  · intro b _ hb
    rw [H.sp1, if_neg (fun e => hb (Fin.ext (by simp only at e ⊢; omega))), mul_zero]
    exact select_same _ _
  · intro h; exact absurd (Finset.mem_univ _) h
  · intro b _ hb
    rw [H.sp1, if_neg (fun e => hb (Fin.ext (by simp only at e ⊢; omega))), mul_zero]
  · intro h; exact absurd (Finset.mem_univ _) h
  · rw [H.sp1, H.sp1, if_pos (by simp only; omega), if_pos (by simp only; omega), mul_one, mul_one]
    have hl : l.val / 64 < 16 := by omega
    simp only [below _ hl]
    rw [H.w1 r (Layer.head l), H.total r (Layer.head l), D.share_sub D.s1, add_zero]

/-- The second branch's share of the weight, at each lane. -/
theorem Stats.share4 (H : Stats A t s1 s4 s16 sp1 sp4) (D : A.Defined) (r : Fin 512) (l : Fin 1024) :
    k0_pay330 (F := Ideal) (k0_pay326 s1 s4 s16) (k0_pay327 s1 s4 s16) lanes sp4 (ix2 r l)
      = Ideal.div (A.weight A.s4 (at_ t r) (Layer.head l)) (A.total (at_ t r) (Layer.head l)) := by
  pointwise [k0_pay330]
  refine (congr (congrArg HAdd.hAdd (Finset.sum_eq_single (⟨l / 64, by omega⟩ : Fin 128) ?_ ?_)) (Finset.sum_eq_single (⟨l / 64, by omega⟩ : Fin 128) ?_ ?_)).trans ?_
  · intro b _ hb
    rw [H.sp4, if_neg (fun e => hb (Fin.ext (by simp only at e ⊢; omega))), mul_zero]
    exact select_same _ _
  · intro h; exact absurd (Finset.mem_univ _) h
  · intro b _ hb
    rw [H.sp4, if_neg (fun e => hb (Fin.ext (by simp only at e ⊢; omega))), mul_zero]
  · intro h; exact absurd (Finset.mem_univ _) h
  · rw [H.sp4, H.sp4, if_pos (by simp only; omega), if_pos (by simp only; omega), mul_one, mul_one]
    have hl : l.val / 64 < 16 := by omega
    simp only [below _ hl]
    rw [H.w4 r (Layer.head l), H.total r (Layer.head l), D.share_sub D.s4, add_zero]

end

section
variable (c1 c4 : FVec Ideal S512x1024 .f32) (b16 : FVec Ideal S1x512x128 .f32) (b1 : FVec Ideal S1x512x128 .bf16) (b4 : FVec Ideal S1x512x128 .f32)

/-- The merged output at row `r`, lane `k` of the slab whose first lane is `o`, from the branches' slabs and their shares. -/
abbrev blend (o : ℕ) (ho : o + 128 ≤ 1024) (r : Fin 512) (k : Fin 128) : EReal :=
  b16 (ix3 (0 : Fin 1) r k) + c1 (ix2 r (⟨o + k, by omega⟩ : Fin 1024)) * (b1 (ix3 (0 : Fin 1) r k) - b16 (ix3 (0 : Fin 1) r k))
      + c4 (ix2 r (⟨o + k, by omega⟩ : Fin 1024)) * (b4 (ix3 (0 : Fin 1) r k) - b16 (ix3 (0 : Fin 1) r k))

variable {c1 c4 b16 b1 b4} in
theorem blend_eq (D : A.Defined)
    (hc1 : ∀ (r : Fin 512) (l : Fin 1024), c1 (ix2 r l) = Ideal.div (A.weight A.s1 (at_ t r) (Layer.head l)) (A.total (at_ t r) (Layer.head l)))
    (hc4 : ∀ (r : Fin 512) (l : Fin 1024), c4 (ix2 r l) = Ideal.div (A.weight A.s4 (at_ t r) (Layer.head l)) (A.total (at_ t r) (Layer.head l)))
    (o : ℕ) (ho : o + 128 ≤ 1024)
    (h16 : ∀ (r : Fin 512) (k : Fin 128), b16 (ix3 (0 : Fin 1) r k) = A.o16 (at_ t r) ⟨o + k, by omega⟩)
    (h1 : ∀ (r : Fin 512) (k : Fin 128), b1 (ix3 (0 : Fin 1) r k) = A.o1 (at_ t r) ⟨o + k, by omega⟩)
    (h4 : ∀ (r : Fin 512) (k : Fin 128), b4 (ix3 (0 : Fin 1) r k) = A.o4 (at_ t r) ⟨o + k, by omega⟩)
    (r : Fin 512) (k : Fin 128) :
    blend c1 c4 b16 b1 b4 o ho r k = A.att (at_ t r) ⟨o + k, by omega⟩ := by
  unfold blend
  rw [h16, h1, h4, hc1, hc4]
  exact D.blend _ _

theorem slab1 (r : Fin 512) (k : Fin 128) : k0_pay332 (F := Ideal) c1 c4 b16 b1 b4 (ix2 r k) = blend c1 c4 b16 b1 b4 128 (by omega) r k := by
  pointwise [k0_pay332]

theorem slab2 (r : Fin 512) (k : Fin 128) : k0_pay333 (F := Ideal) c1 c4 b16 b1 b4 (ix2 r k) = blend c1 c4 b16 b1 b4 256 (by omega) r k := by
  pointwise [k0_pay333]

theorem slab3 (r : Fin 512) (k : Fin 128) :
    k0_pay337 (F := Ideal) c4 (k0_pay334 b16) (k0_pay335 c1) (k0_pay336 b1) b4 (ix2 r k) = blend c1 c4 b16 b1 b4 384 (by omega) r k := by
  pointwise [k0_pay337, k0_pay336, k0_pay335, k0_pay334]

theorem slab4 (r : Fin 512) (k : Fin 128) : k0_pay338 (F := Ideal) c1 c4 b16 b1 b4 (ix2 r k) = blend c1 c4 b16 b1 b4 512 (by omega) r k := by
  pointwise [k0_pay338]

end

theorem slab0 (w1 w4 tot : FVec Ideal S512x128 .f32) (i j : IVec S512x128 32) (sp1 sp4 : FVec Ideal S256x1024 .bf16)
    (b16 : FVec Ideal S1x512x128 .f32) (b1 : FVec Ideal S1x512x128 .bf16) (b4 : FVec Ideal S1x512x128 .f32) (r : Fin 512) (k : Fin 128) :
    k0_pay331 (F := Ideal) w1 w4 tot i j sp1 sp4 b16 b1 b4 (ix2 r k)
      = blend (k0_pay329 w1 tot i j sp1) (k0_pay330 w4 tot i sp4) b16 b1 b4 0 (by omega) r k := by
  unfold k0_pay331
  generalize k0_pay329 w1 tot i j sp1 = c1
  generalize k0_pay330 w4 tot i sp4 = c4
  pointwise
  simp only [blend, Nat.zero_add]

set_option maxHeartbeats 1000000 in
/-- Eight slabs side by side: each lane is read in its own. -/
theorem slabs (c1 c4 : FVec Ideal S512x1024 .f32) (q0 q1 q2 q3 q4 : FVec Ideal S512x128 .bf16) (b5 : FVec Ideal S1x512x128 .f32) (e5 : FVec Ideal S1x512x128 .bf16)
    (d5 b6 : FVec Ideal S1x512x128 .f32) (e6 : FVec Ideal S1x512x128 .bf16) (d6 b7 : FVec Ideal S1x512x128 .f32) (e7 : FVec Ideal S1x512x128 .bf16)
    (d7 : FVec Ideal S1x512x128 .f32) (f : Fin 1024 → EReal) (r : Fin 512)
    (h0 : ∀ k : Fin 128, q0 (ix2 r k) = f ⟨0 + k, by omega⟩) (h1 : ∀ k : Fin 128, q1 (ix2 r k) = f ⟨128 + k, by omega⟩)
    (h2 : ∀ k : Fin 128, q2 (ix2 r k) = f ⟨256 + k, by omega⟩) (h3 : ∀ k : Fin 128, q3 (ix2 r k) = f ⟨384 + k, by omega⟩)
    (h4 : ∀ k : Fin 128, q4 (ix2 r k) = f ⟨512 + k, by omega⟩) (h5 : ∀ k : Fin 128, blend c1 c4 b5 e5 d5 640 (by omega) r k = f ⟨640 + k, by omega⟩)
    (h6 : ∀ k : Fin 128, blend c1 c4 b6 e6 d6 768 (by omega) r k = f ⟨768 + k, by omega⟩) (h7 : ∀ k : Fin 128, blend c1 c4 b7 e7 d7 896 (by omega) r k = f ⟨896 + k, by omega⟩) (l : Fin 1024) :
    k0_pay343 (F := Ideal) c1 c4 q0 q1 q2 q3 q4 (k0_pay339 b5) (k0_pay340 c1 b5 e5) (k0_pay341 c4) (k0_pay342 d5) b6 e6 d6 b7 e7 d7 (ix2 r l) = f l := by
  simp only [blend] at h5 h6 h7
  pointwise [k0_pay343, k0_pay342, k0_pay341, k0_pay340, k0_pay339]
  by_cases g0 : l.val < 128
  · exact (dif_pos g0).trans ((h0 _).trans (congrArg f (Fin.ext (show 0 + (l.val) = l.val by omega))))
  refine (dif_neg g0).trans ?_
  by_cases g1 : l.val - 128 < 128
  · exact (dif_pos g1).trans ((h1 _).trans (congrArg f (Fin.ext (show 128 + (l.val - 128) = l.val by omega))))
  refine (dif_neg g1).trans ?_
  by_cases g2 : l.val - 128 - 128 < 128
  · exact (dif_pos g2).trans ((h2 _).trans (congrArg f (Fin.ext (show 256 + (l.val - 128 - 128) = l.val by omega))))
  refine (dif_neg g2).trans ?_
  by_cases g3 : l.val - 128 - 128 - 128 < 128
  · exact (dif_pos g3).trans ((h3 _).trans (congrArg f (Fin.ext (show 384 + (l.val - 128 - 128 - 128) = l.val by omega))))
  refine (dif_neg g3).trans ?_
  by_cases g4 : l.val - 128 - 128 - 128 - 128 < 128
  · exact (dif_pos g4).trans ((h4 _).trans (congrArg f (Fin.ext (show 512 + (l.val - 128 - 128 - 128 - 128) = l.val by omega))))
  refine (dif_neg g4).trans ?_
  by_cases g5 : l.val - 128 - 128 - 128 - 128 - 128 < 128
  · exact (dif_pos g5).trans ((h5 _).trans (congrArg f (Fin.ext (show 640 + (l.val - 128 - 128 - 128 - 128 - 128) = l.val by omega))))
  refine (dif_neg g5).trans ?_
  by_cases g6 : l.val - 128 - 128 - 128 - 128 - 128 - 128 < 128
  · exact (dif_pos g6).trans ((h6 _).trans (congrArg f (Fin.ext (show 768 + (l.val - 128 - 128 - 128 - 128 - 128 - 128) = l.val by omega))))
  refine (dif_neg g6).trans ?_
  exact (h7 _).trans (congrArg f (Fin.ext (show 896 + (l.val - 128 - 128 - 128 - 128 - 128 - 128 - 128) = l.val by omega)))

theorem mixed_eq (a : FVec Ideal S512x1024 .bf16) (w : FVec Ideal S1024x1024 .bf16) (x : FVec Ideal S512x1024 .f32) (g1 : FVec Ideal S1x1024 .f32)
    (ha : ∀ (r : Fin 512) (l : Fin 1024), a (ix2 r l) = A.att (at_ t r) l) (hw : ∀ k l : Fin 1024, w (ix2 k l) = A.wO k l)
    (hx : ∀ (r : Fin 512) (l : Fin 1024), x (ix2 r l) = A.x (at_ t r) l)
    (hg : ∀ l : Fin 1024, g1 (ix2 (0 : Fin 1) l) = A.mod ⟨2048 + l, by omega⟩) (r : Fin 512) (l : Fin 1024) :
    k0_pay345 (F := Ideal) a (k0_pay344 w) (constant S512x1024 .f32 0x00000000#32) x g1 (ix2 r l) = A.mixed (at_ t r) l := by
  unfold Layer.mixed
  pointwise [k0_pay345, k0_pay344]
  simp only [ha, hw, hx, hg]

theorem h_eq (a : FVec Ideal S512x1024 .bf16) (w : FVec Ideal S1024x1024 .bf16) (z x : FVec Ideal S512x1024 .f32) (g1 ng sh sc : FVec Ideal S1x1024 .f32)
    (hm : ∀ (r : Fin 512) (l : Fin 1024), k0_pay345 (F := Ideal) a w z x g1 (ix2 r l) = A.mixed (at_ t r) l)
    (hng : ∀ l : Fin 1024, ng (ix2 (0 : Fin 1) l) = A.norm l)
    (hsh : ∀ l : Fin 1024, sh (ix2 (0 : Fin 1) l) = A.mod ⟨3072 + l, by omega⟩)
    (hsc : ∀ l : Fin 1024, sc (ix2 (0 : Fin 1) l) = A.mod ⟨4096 + l, by omega⟩) (r : Fin 512) (l : Fin 1024) :
    k0_pay346 (F := Ideal) a w z x g1 ng sh sc (ix2 r l) = A.h (at_ t r) l := by
  unfold Layer.h
  pointwise [k0_pay346]
  simp only [hm, hng, hsh, hsc]

theorem upA_eq (a : FVec Ideal S512x1024 .bf16) (w : FVec Ideal S1024x1024 .bf16) (z x : FVec Ideal S512x1024 .f32) (g1 ng sh sc : FVec Ideal S1x1024 .f32)
    (wa : FVec Ideal S1x1024x2816 .bf16)
    (hh : ∀ (r : Fin 512) (l : Fin 1024), k0_pay346 (F := Ideal) a w z x g1 ng sh sc (ix2 r l) = A.h (at_ t r) l)
    (hw : ∀ (k : Fin 1024) (j : Fin 2816), wa (ix3 (0 : Fin 1) k j) = A.wUp k ⟨j, by omega⟩) (r : Fin 512) (j : Fin 2816) :
    k0_pay348 (F := Ideal) a w z x g1 ng sh sc wa (ix2 r j) = A.up (at_ t r) ⟨j, by omega⟩ := by
  unfold Layer.up
  pointwise [k0_pay348]
  simp only [hh, hw]

theorem upG_eq (h : FVec Ideal S512x1024 .bf16) (w : FVec Ideal S1x1024x2816 .bf16) (hh : ∀ (r : Fin 512) (l : Fin 1024), h (ix2 r l) = A.h (at_ t r) l)
    (hw : ∀ (k : Fin 1024) (j : Fin 2816), w (ix3 (0 : Fin 1) k j) = A.wUp k ⟨2816 + j, by omega⟩) (r : Fin 512) (j : Fin 2816) :
    k0_pay350 (F := Ideal) h (k0_pay349 w) (constant S512x2816 .f32 0x00000000#32) (ix2 r j) = A.up (at_ t r) ⟨2816 + j, by omega⟩ := by
  unfold Layer.up
  pointwise [k0_pay350, k0_pay349]
  simp only [hh, hw]

section
variable (a : FVec Ideal S512x2816 .f32) (hu : ∀ (r : Fin 512) (j : Fin 2816), a (ix2 r j) = A.up (at_ t r) ⟨j, by omega⟩)
include hu

/-- The rows that the point keeps for the next: rows 510 and 511 of the up-projection's first half. -/
theorem kept_eq (b : Fin 2) (j : Fin 2816) : k0_pay352 (F := Ideal) a (ix2 b j) = A.padded ((t.val + 1) * 512 + b) j := by
  have e : (t.val + 1) * 512 + b.val = (at_ t ⟨510 + b, by omega⟩).val + 2 := by simp only; omega
  rw [e, A.padded_add]
  pointwise [k0_pay352]
  exact hu _ _

/-- The row before: the carried row at the block's first, else the block's own. -/
theorem back1_eq (c1 : FVec Ideal S1x2816 .f32) (h1 : ∀ j : Fin 2816, c1 (ix2 (0 : Fin 1) j) = A.padded (t.val * 512 + 1) j) (r : Fin 512) (j : Fin 2816) :
    k0_pay351 (F := Ideal) rowNums a c1 (ix2 r j) = A.padded ((at_ t r).val + 1) j := by
  pointwise [k0_pay351]
  refine (Cert.Ffn.Block.pick r 0 _ _).trans ?_
  split_ifs with hr
  · exact (h1 j).trans (congrArg (A.padded · j) (by change r.val = 0 at hr; simp only [hr, Nat.add_zero]))
  · refine (hu _ _).trans ((A.padded_add _ _).symm.trans (congrArg (A.padded · j) ?_))
    change ¬ r.val = 0 at hr
    show t.val * 512 + (r.val + 512 - 1) % 512 + 2 = t.val * 512 + r.val + 1
    omega

/-- The bias and the first tap, on the row before that. -/
theorem tap_eq (c0 c1 : FVec Ideal S1x2816 .f32) (cb w0 : FVec Ideal S1x1x2816 .f32)
    (h0 : ∀ j : Fin 2816, c0 (ix2 (0 : Fin 1) j) = A.padded (t.val * 512) j)
    (h1 : ∀ j : Fin 2816, c1 (ix2 (0 : Fin 1) j) = A.padded (t.val * 512 + 1) j)
    (hcb : ∀ j : Fin 2816, cb (ix3 (0 : Fin 1) (0 : Fin 1) j) = A.convB j)
    (hw0 : ∀ j : Fin 2816, w0 (ix3 (0 : Fin 1) (0 : Fin 1) j) = A.convW 0 j) (r : Fin 512) (j : Fin 2816) :
    k0_pay353 (F := Ideal) rowNums a c0 c1 cb w0 (ix2 r j) = A.convB j + A.convW 0 j * A.padded (at_ t r).val j := by
  pointwise [k0_pay353]
  refine congr (congrArg HAdd.hAdd (hcb j)) (congr (congrArg HMul.hMul (hw0 j)) ?_)
  refine (Cert.Ffn.Block.pick r 0 _ _).trans ?_
  split_ifs with hr
  · exact (h0 j).trans (congrArg (A.padded · j) (by change r.val = 0 at hr; simp only [hr, Nat.add_zero]))
  refine (Cert.Ffn.Block.pick r 1 _ _).trans ?_
  split_ifs with hr'
  · exact (h1 j).trans (congrArg (A.padded · j) (by change r.val = 1 at hr'; simp only [hr']))
  · refine (hu _ _).trans ((A.padded_add _ _).symm.trans (congrArg (A.padded · j) ?_))
    change ¬ r.val = 0 at hr
    change ¬ r.val = 1 at hr'
    show t.val * 512 + (r.val + 512 - 2) % 512 + 2 = t.val * 512 + r.val
    omega

end

/-- The block's output. -/
theorem out_eq (xm : FVec Ideal S512x1024 .f32) (a g p1 f : FVec Ideal S512x2816 .f32) (w1 w2 : FVec Ideal S1x1x2816 .f32)
    (wd : FVec Ideal S1x2816x1024 .bf16) (g2 fg : FVec Ideal S1x1024 .f32)
    (hxm : ∀ (r : Fin 512) (l : Fin 1024), xm (ix2 r l) = A.mixed (at_ t r) l)
    (ha : ∀ (r : Fin 512) (j : Fin 2816), a (ix2 r j) = A.up (at_ t r) ⟨j, by omega⟩)
    (hg : ∀ (r : Fin 512) (j : Fin 2816), g (ix2 r j) = A.up (at_ t r) ⟨2816 + j, by omega⟩)
    (hp1 : ∀ (r : Fin 512) (j : Fin 2816), p1 (ix2 r j) = A.padded ((at_ t r).val + 1) j)
    (hf : ∀ (r : Fin 512) (j : Fin 2816), f (ix2 r j) = A.convB j + A.convW 0 j * A.padded (at_ t r).val j)
    (hw1 : ∀ j : Fin 2816, w1 (ix3 (0 : Fin 1) (0 : Fin 1) j) = A.convW 1 j)
    (hw2 : ∀ j : Fin 2816, w2 (ix3 (0 : Fin 1) (0 : Fin 1) j) = A.convW 2 j)
    (hwd : ∀ (k : Fin 2816) (l : Fin 1024), wd (ix3 (0 : Fin 1) k l) = A.wDown k l)
    (hg2 : ∀ l : Fin 1024, g2 (ix2 (0 : Fin 1) l) = A.mod ⟨5120 + l, by omega⟩)
    (hfg : ∀ l : Fin 1024, fg (ix2 (0 : Fin 1) l) = A.last l) (r : Fin 512) (l : Fin 1024) :
    k0_pay1 (F := Ideal) (k0_pay354 xm k0_pay347 a g p1 f w1 w2 wd g2) fg (ix2 r l) = A.out (at_ t r) l := by
  unfold Layer.out Layer.res Layer.conv gelu
  pointwise [k0_pay1, k0_pay354, k0_pay347]
  simp only [hxm, ha, hg, hp1, hf, hw1, hw2, hwd, hg2, hfg]
  have e : ∀ j : Fin 2816, A.up (at_ t r) ⟨j, by omega⟩ = A.padded (t.val * 512 + r.val + 2) j := fun j => (A.padded_add (at_ t r) j).symm
  simp only [e]

/-- What the body's arithmetic reads at one point: the branches' statistics and slabs, put back in order, the blocks or parts of
    blocks of the other operands, and the two carried rows. -/
structure Ops where
  s1 : FVec Ideal S1x512x128 .f32
  s4 : FVec Ideal S512x128 .f32
  s16 : FVec Ideal S512x128 .f32
  sp1 : FVec Ideal S256x1024 .bf16
  sp4 : FVec Ideal S256x1024 .bf16
  p16_0 : FVec Ideal S1x512x128 .f32
  p16_1 : FVec Ideal S1x512x128 .f32
  p16_2 : FVec Ideal S1x512x128 .f32
  p16_3 : FVec Ideal S1x512x128 .f32
  p16_4 : FVec Ideal S1x512x128 .f32
  p16_5 : FVec Ideal S1x512x128 .f32
  p16_6 : FVec Ideal S1x512x128 .f32
  p16_7 : FVec Ideal S1x512x128 .f32
  p1_0 : FVec Ideal S1x512x128 .bf16
  p1_1 : FVec Ideal S1x512x128 .bf16
  p1_2 : FVec Ideal S1x512x128 .bf16
  p1_3 : FVec Ideal S1x512x128 .bf16
  p1_4 : FVec Ideal S1x512x128 .bf16
  p1_5 : FVec Ideal S1x512x128 .bf16
  p1_6 : FVec Ideal S1x512x128 .bf16
  p1_7 : FVec Ideal S1x512x128 .bf16
  p4_0 : FVec Ideal S1x512x128 .f32
  p4_1 : FVec Ideal S1x512x128 .f32
  p4_2 : FVec Ideal S1x512x128 .f32
  p4_3 : FVec Ideal S1x512x128 .f32
  p4_4 : FVec Ideal S1x512x128 .f32
  p4_5 : FVec Ideal S1x512x128 .f32
  p4_6 : FVec Ideal S1x512x128 .f32
  p4_7 : FVec Ideal S1x512x128 .f32
  wO : FVec Ideal S1024x1024 .bf16
  x : FVec Ideal S512x1024 .f32
  g1 : FVec Ideal S1x1024 .f32
  norm : FVec Ideal S1x1024 .f32
  shift : FVec Ideal S1x1024 .f32
  scale : FVec Ideal S1x1024 .f32
  wa : FVec Ideal S1x1024x2816 .bf16
  wg : FVec Ideal S1x1024x2816 .bf16
  c0 : FVec Ideal S1x2816 .f32
  c1 : FVec Ideal S1x2816 .f32
  cb : FVec Ideal S1x1x2816 .f32
  cw0 : FVec Ideal S1x1x2816 .f32
  cw1 : FVec Ideal S1x1x2816 .f32
  cw2 : FVec Ideal S1x1x2816 .f32
  wd : FVec Ideal S1x2816x1024 .bf16
  g2 : FVec Ideal S1x1024 .f32
  fg : FVec Ideal S1x1024 .f32

namespace Ops

variable (O : Ops)

/-- The first branch's share at each lane. -/
def share1 : FVec Ideal S512x1024 .f32 := k0_pay329 (k0_pay325 O.s1 O.s4 O.s16) (k0_pay327 O.s1 O.s4 O.s16) lanes k0_pay328 O.sp1

/-- The second branch's share at each lane. -/
def share4 : FVec Ideal S512x1024 .f32 := k0_pay330 (k0_pay326 O.s1 O.s4 O.s16) (k0_pay327 O.s1 O.s4 O.s16) lanes O.sp4

/-- The merged attention output. -/
def att : FVec Ideal S512x1024 .bf16 :=
  k0_pay343 O.share1 O.share4
    (k0_pay331 (k0_pay325 O.s1 O.s4 O.s16) (k0_pay326 O.s1 O.s4 O.s16) (k0_pay327 O.s1 O.s4 O.s16) lanes k0_pay328 O.sp1 O.sp4 O.p16_0 O.p1_0 O.p4_0)
    (k0_pay332 O.share1 O.share4 O.p16_1 O.p1_1 O.p4_1) (k0_pay333 O.share1 O.share4 O.p16_2 O.p1_2 O.p4_2)
    (k0_pay337 O.share4 (k0_pay334 O.p16_3) (k0_pay335 O.share1) (k0_pay336 O.p1_3) O.p4_3) (k0_pay338 O.share1 O.share4 O.p16_4 O.p1_4 O.p4_4)
    (k0_pay339 O.p16_5) (k0_pay340 O.share1 O.p16_5 O.p1_5) (k0_pay341 O.share4) (k0_pay342 O.p4_5) O.p16_6 O.p1_6 O.p4_6 O.p16_7 O.p1_7 O.p4_7

/-- The residual after the mixer. -/
def mixed : FVec Ideal S512x1024 .f32 := k0_pay345 O.att (k0_pay344 O.wO) (constant S512x1024 .f32 0x00000000#32) O.x O.g1

/-- The normalised rows that enter the feed-forward. -/
def h : FVec Ideal S512x1024 .bf16 :=
  k0_pay346 O.att (k0_pay344 O.wO) (constant S512x1024 .f32 0x00000000#32) O.x O.g1 O.norm O.shift O.scale

/-- The up-projection's first half. -/
def up : FVec Ideal S512x2816 .f32 :=
  k0_pay348 O.att (k0_pay344 O.wO) (constant S512x1024 .f32 0x00000000#32) O.x O.g1 O.norm O.shift O.scale O.wa

/-- The rows written back. -/
def out : FVec Ideal S512x1024 .f32 :=
  k0_pay1 (k0_pay354 O.mixed k0_pay347 O.up (k0_pay350 O.h (k0_pay349 O.wg) (constant S512x2816 .f32 0x00000000#32)) (k0_pay351 rowNums O.up O.c1)
    (k0_pay353 rowNums O.up O.c0 O.c1 O.cb O.cw0) O.cw1 O.cw2 O.wd O.g2) O.fg

/-- The rows kept for the next point. -/
def kept : FVec Ideal S2x2816 .f32 := k0_pay352 O.up

/-- The operands hold the layer's arrays, the rows from the block's first on. -/
structure Agree : Prop where
  stats : Stats A t O.s1 O.s4 O.s16 O.sp1 O.sp4
  p16_0 : ∀ (r : Fin 512) (k : Fin 128), O.p16_0 (ix3 (0 : Fin 1) r k) = A.o16 (at_ t r) ⟨0 + k, by omega⟩
  p16_1 : ∀ (r : Fin 512) (k : Fin 128), O.p16_1 (ix3 (0 : Fin 1) r k) = A.o16 (at_ t r) ⟨128 + k, by omega⟩
  p16_2 : ∀ (r : Fin 512) (k : Fin 128), O.p16_2 (ix3 (0 : Fin 1) r k) = A.o16 (at_ t r) ⟨256 + k, by omega⟩
  p16_3 : ∀ (r : Fin 512) (k : Fin 128), O.p16_3 (ix3 (0 : Fin 1) r k) = A.o16 (at_ t r) ⟨384 + k, by omega⟩
  p16_4 : ∀ (r : Fin 512) (k : Fin 128), O.p16_4 (ix3 (0 : Fin 1) r k) = A.o16 (at_ t r) ⟨512 + k, by omega⟩
  p16_5 : ∀ (r : Fin 512) (k : Fin 128), O.p16_5 (ix3 (0 : Fin 1) r k) = A.o16 (at_ t r) ⟨640 + k, by omega⟩
  p16_6 : ∀ (r : Fin 512) (k : Fin 128), O.p16_6 (ix3 (0 : Fin 1) r k) = A.o16 (at_ t r) ⟨768 + k, by omega⟩
  p16_7 : ∀ (r : Fin 512) (k : Fin 128), O.p16_7 (ix3 (0 : Fin 1) r k) = A.o16 (at_ t r) ⟨896 + k, by omega⟩
  p1_0 : ∀ (r : Fin 512) (k : Fin 128), O.p1_0 (ix3 (0 : Fin 1) r k) = A.o1 (at_ t r) ⟨0 + k, by omega⟩
  p1_1 : ∀ (r : Fin 512) (k : Fin 128), O.p1_1 (ix3 (0 : Fin 1) r k) = A.o1 (at_ t r) ⟨128 + k, by omega⟩
  p1_2 : ∀ (r : Fin 512) (k : Fin 128), O.p1_2 (ix3 (0 : Fin 1) r k) = A.o1 (at_ t r) ⟨256 + k, by omega⟩
  p1_3 : ∀ (r : Fin 512) (k : Fin 128), O.p1_3 (ix3 (0 : Fin 1) r k) = A.o1 (at_ t r) ⟨384 + k, by omega⟩
  p1_4 : ∀ (r : Fin 512) (k : Fin 128), O.p1_4 (ix3 (0 : Fin 1) r k) = A.o1 (at_ t r) ⟨512 + k, by omega⟩
  p1_5 : ∀ (r : Fin 512) (k : Fin 128), O.p1_5 (ix3 (0 : Fin 1) r k) = A.o1 (at_ t r) ⟨640 + k, by omega⟩
  p1_6 : ∀ (r : Fin 512) (k : Fin 128), O.p1_6 (ix3 (0 : Fin 1) r k) = A.o1 (at_ t r) ⟨768 + k, by omega⟩
  p1_7 : ∀ (r : Fin 512) (k : Fin 128), O.p1_7 (ix3 (0 : Fin 1) r k) = A.o1 (at_ t r) ⟨896 + k, by omega⟩
  p4_0 : ∀ (r : Fin 512) (k : Fin 128), O.p4_0 (ix3 (0 : Fin 1) r k) = A.o4 (at_ t r) ⟨0 + k, by omega⟩
  p4_1 : ∀ (r : Fin 512) (k : Fin 128), O.p4_1 (ix3 (0 : Fin 1) r k) = A.o4 (at_ t r) ⟨128 + k, by omega⟩
  p4_2 : ∀ (r : Fin 512) (k : Fin 128), O.p4_2 (ix3 (0 : Fin 1) r k) = A.o4 (at_ t r) ⟨256 + k, by omega⟩
  p4_3 : ∀ (r : Fin 512) (k : Fin 128), O.p4_3 (ix3 (0 : Fin 1) r k) = A.o4 (at_ t r) ⟨384 + k, by omega⟩
  p4_4 : ∀ (r : Fin 512) (k : Fin 128), O.p4_4 (ix3 (0 : Fin 1) r k) = A.o4 (at_ t r) ⟨512 + k, by omega⟩
  p4_5 : ∀ (r : Fin 512) (k : Fin 128), O.p4_5 (ix3 (0 : Fin 1) r k) = A.o4 (at_ t r) ⟨640 + k, by omega⟩
  p4_6 : ∀ (r : Fin 512) (k : Fin 128), O.p4_6 (ix3 (0 : Fin 1) r k) = A.o4 (at_ t r) ⟨768 + k, by omega⟩
  p4_7 : ∀ (r : Fin 512) (k : Fin 128), O.p4_7 (ix3 (0 : Fin 1) r k) = A.o4 (at_ t r) ⟨896 + k, by omega⟩
  wO : ∀ k l : Fin 1024, O.wO (ix2 k l) = A.wO k l
  x : ∀ (r : Fin 512) (l : Fin 1024), O.x (ix2 r l) = A.x (at_ t r) l
  g1 : ∀ l : Fin 1024, O.g1 (ix2 (0 : Fin 1) l) = A.mod ⟨2048 + l, by omega⟩
  norm : ∀ l : Fin 1024, O.norm (ix2 (0 : Fin 1) l) = A.norm l
  shift : ∀ l : Fin 1024, O.shift (ix2 (0 : Fin 1) l) = A.mod ⟨3072 + l, by omega⟩
  scale : ∀ l : Fin 1024, O.scale (ix2 (0 : Fin 1) l) = A.mod ⟨4096 + l, by omega⟩
  wa : ∀ (k : Fin 1024) (j : Fin 2816), O.wa (ix3 (0 : Fin 1) k j) = A.wUp k ⟨j, by omega⟩
  wg : ∀ (k : Fin 1024) (j : Fin 2816), O.wg (ix3 (0 : Fin 1) k j) = A.wUp k ⟨2816 + j, by omega⟩
  c0 : ∀ j : Fin 2816, O.c0 (ix2 (0 : Fin 1) j) = A.padded (t.val * 512) j
  c1 : ∀ j : Fin 2816, O.c1 (ix2 (0 : Fin 1) j) = A.padded (t.val * 512 + 1) j
  cb : ∀ j : Fin 2816, O.cb (ix3 (0 : Fin 1) (0 : Fin 1) j) = A.convB j
  cw0 : ∀ j : Fin 2816, O.cw0 (ix3 (0 : Fin 1) (0 : Fin 1) j) = A.convW 0 j
  cw1 : ∀ j : Fin 2816, O.cw1 (ix3 (0 : Fin 1) (0 : Fin 1) j) = A.convW 1 j
  cw2 : ∀ j : Fin 2816, O.cw2 (ix3 (0 : Fin 1) (0 : Fin 1) j) = A.convW 2 j
  wd : ∀ (k : Fin 2816) (l : Fin 1024), O.wd (ix3 (0 : Fin 1) k l) = A.wDown k l
  g2 : ∀ l : Fin 1024, O.g2 (ix2 (0 : Fin 1) l) = A.mod ⟨5120 + l, by omega⟩
  fg : ∀ l : Fin 1024, O.fg (ix2 (0 : Fin 1) l) = A.last l

variable {A t O}

theorem Agree.att_eq (H : O.Agree A t) (D : A.Defined) (r : Fin 512) (l : Fin 1024) : O.att (ix2 r l) = A.att (at_ t r) l := by
  have hc1 : ∀ (r : Fin 512) (l : Fin 1024), O.share1 (ix2 r l) = _ := fun r l => H.stats.share1 D r l
  have hc4 : ∀ (r : Fin 512) (l : Fin 1024), O.share4 (ix2 r l) = _ := fun r l => H.stats.share4 D r l
  have b : ∀ (o : ℕ) (ho : o + 128 ≤ 1024) (b16 : FVec Ideal S1x512x128 .f32) (b1 : FVec Ideal S1x512x128 .bf16) (b4 : FVec Ideal S1x512x128 .f32), _ → _ → _ → ∀ k, _ :=
    fun o ho b16 b1 b4 h16 h1 h4 k => blend_eq A t (b16 := b16) (b1 := b1) (b4 := b4) D hc1 hc4 o ho h16 h1 h4 r k
  exact slabs O.share1 O.share4 _ _ _ _ _ _ _ _ _ _ _ _ _ _ (A.att (at_ t r)) r
    (fun k => (slab0 _ _ _ _ _ _ _ _ _ _ r k).trans (b 0 (by omega) _ _ _ H.p16_0 H.p1_0 H.p4_0 k))
    (fun k => (slab1 _ _ _ _ _ r k).trans (b 128 (by omega) _ _ _ H.p16_1 H.p1_1 H.p4_1 k))
    (fun k => (slab2 _ _ _ _ _ r k).trans (b 256 (by omega) _ _ _ H.p16_2 H.p1_2 H.p4_2 k))
    (fun k => (slab3 _ _ _ _ _ r k).trans (b 384 (by omega) _ _ _ H.p16_3 H.p1_3 H.p4_3 k))
    (fun k => (slab4 _ _ _ _ _ r k).trans (b 512 (by omega) _ _ _ H.p16_4 H.p1_4 H.p4_4 k))
    (fun k => b 640 (by omega) _ _ _ H.p16_5 H.p1_5 H.p4_5 k)
    (fun k => b 768 (by omega) _ _ _ H.p16_6 H.p1_6 H.p4_6 k)
    (fun k => b 896 (by omega) _ _ _ H.p16_7 H.p1_7 H.p4_7 k) l

theorem Agree.mixed_eq (H : O.Agree A t) (D : A.Defined) (r : Fin 512) (l : Fin 1024) : O.mixed (ix2 r l) = A.mixed (at_ t r) l :=
  Block.mixed_eq A t _ _ _ _ (H.att_eq D) H.wO H.x H.g1 r l

theorem Agree.h_eq (H : O.Agree A t) (D : A.Defined) (r : Fin 512) (l : Fin 1024) : O.h (ix2 r l) = A.h (at_ t r) l :=
  Block.h_eq A t _ _ _ _ _ _ _ _ (H.mixed_eq D) H.norm H.shift H.scale r l

theorem Agree.up_eq (H : O.Agree A t) (D : A.Defined) (r : Fin 512) (j : Fin 2816) : O.up (ix2 r j) = A.up (at_ t r) ⟨j, by omega⟩ :=
  upA_eq A t _ _ _ _ _ _ _ _ _ (H.h_eq D) H.wa r j

theorem Agree.out_eq (H : O.Agree A t) (D : A.Defined) (r : Fin 512) (l : Fin 1024) : O.out (ix2 r l) = A.out (at_ t r) l :=
  Block.out_eq A t _ _ _ _ _ _ _ _ _ _ (H.mixed_eq D) (H.up_eq D) (upG_eq A t _ _ (H.h_eq D) H.wg) (back1_eq A t _ (H.up_eq D) _ H.c1)
    (tap_eq A t _ (H.up_eq D) _ _ _ _ H.c0 H.c1 H.cb H.cw0) H.cw1 H.cw2 H.wd H.g2 H.fg r l

theorem Agree.kept_eq (H : O.Agree A t) (D : A.Defined) (b : Fin 2) (j : Fin 2816) : O.kept (ix2 b j) = A.padded ((t.val + 1) * 512 + b) j :=
  Block.kept_eq A t _ (H.up_eq D) b j

end Ops

end Cert.Merge.Block

end
-- ==== Proof.MergeSpread.lean ====
/-
  The matrix that spreads the heads' shares over the lanes, which the host computes: a one where the row, modulo 128, is the lane's
  head.
-/
module

public import proofs.«01_k».proof.Proof.Gen.Kernel3Ideal.Value
public import Idealize.ShloMosaic.Lib.Pipeline.ValueKit
public import Idealize.ShloMosaic.Lib.Pointwise
public import Idealize.ShloMosaic.Lib.Claim

@[expose] public section

set_option maxRecDepth 16384

noncomputable section

namespace Cert.Merge.Point

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

theorem idx9 : ∀ t : Fin cfg0.N, win0_9.index t = ![0, 0] :=
  (by decide +kernel : ∀ t : Fin grid0.N, _)

/-- The host's floor division of a lane by 64: truncated division, less one where the signs differ and the division is not exact. -/
theorem head_word : ∀ l : Fin 1024,
    Scalar.select
      (IntOp.andi
        (IntOp.cmpi CmpIPredicate.ne (if BitVec.ofNat 32 l.val = 0 then (0 : BitVec 32) else if (BitVec.ofNat 32 l.val).msb = true then -1 else 1)
          (if 64#32 = 0 then 0 else if (64#32).msb = true then -1 else 1))
        (IntOp.cmpi CmpIPredicate.ne (IntOp.remsi ArithUnit.host (BitVec.ofNat 32 l.val) 64#32) 0#32))
      (IntOp.subi (IntOp.divsi ArithUnit.host (BitVec.ofNat 32 l.val) 64#32) 1#32)
      (IntOp.divsi ArithUnit.host (BitVec.ofNat 32 l.val) 64#32) = BitVec.ofNat 32 (l.val / 64) := by
  decide +kernel

theorem uitofp_one : (FloatOps.uitofp (F := Ideal) FTy.bf16 1#1 : EReal) = 1 :=
  (show (((1#1).toNat : ℝ) : EReal) = 1 by simp)

theorem uitofp_zero : (FloatOps.uitofp (F := Ideal) FTy.bf16 0#1 : EReal) = 0 :=
  (show (((0#1).toNat : ℝ) : EReal) = 0 by simp)

/-- The number of an equality test on two small words. -/
theorem equal_word (a b : ℕ) (ha : a < 1024) (hb : b < 1024) :
    (FloatOps.uitofp (F := Ideal) FTy.bf16 (IntOp.cmpi CmpIPredicate.eq (BitVec.ofNat 32 a) (BitVec.ofNat 32 b)) : EReal) = if a = b then 1 else 0 := by
  have e : BitVec.ofNat 32 a = BitVec.ofNat 32 b ↔ a = b := by
    constructor
    · intro h
      have h' := congrArg BitVec.toNat h
      simp only [BitVec.toNat_ofNat] at h'
      omega
    · intro h
      rw [h]
  by_cases h : a = b
  · subst h
    simp only [IntOp.cmpi, if_true, beq_self_eq_true, BitVec.ofBool_true]
    exact uitofp_one
  · rw [if_neg h]
    simp only [IntOp.cmpi, beq_eq_false_iff_ne.mpr (fun hh => h (e.mp hh)), BitVec.ofBool_false]
    exact uitofp_zero

/-- An entry of the matrix, from the two halves' row numbers and the lane's head. -/
theorem spread_word (k : Fin 256) (l : Fin 1024) :
    (if h : k.val < 128 then
        (FloatOps.uitofp (F := Ideal) FTy.bf16 (IntOp.cmpi CmpIPredicate.eq (BitVec.ofNat 32 k.val)
          (Scalar.select
            (IntOp.andi
              (IntOp.cmpi CmpIPredicate.ne (if BitVec.ofNat 32 l.val = 0 then (0 : BitVec 32) else if (BitVec.ofNat 32 l.val).msb = true then -1 else 1)
                (if 64#32 = 0 then 0 else if (64#32).msb = true then -1 else 1))
              (IntOp.cmpi CmpIPredicate.ne (IntOp.remsi ArithUnit.host (BitVec.ofNat 32 l.val) 64#32) 0#32))
            (IntOp.subi (IntOp.divsi ArithUnit.host (BitVec.ofNat 32 l.val) 64#32) 1#32)
            (IntOp.divsi ArithUnit.host (BitVec.ofNat 32 l.val) 64#32))) : EReal)
      else
        (FloatOps.uitofp (F := Ideal) FTy.bf16 (IntOp.cmpi CmpIPredicate.eq (BitVec.ofNat 32 (k.val - 128))
          (Scalar.select
            (IntOp.andi
              (IntOp.cmpi CmpIPredicate.ne (if BitVec.ofNat 32 l.val = 0 then (0 : BitVec 32) else if (BitVec.ofNat 32 l.val).msb = true then -1 else 1)
                (if 64#32 = 0 then 0 else if (64#32).msb = true then -1 else 1))
              (IntOp.cmpi CmpIPredicate.ne (IntOp.remsi ArithUnit.host (BitVec.ofNat 32 l.val) 64#32) 0#32))
            (IntOp.subi (IntOp.divsi ArithUnit.host (BitVec.ofNat 32 l.val) 64#32) 1#32)
            (IntOp.divsi ArithUnit.host (BitVec.ofNat 32 l.val) 64#32))) : EReal)) =
      if k.val % 128 = l.val / 64 then (1 : EReal) else 0 := by
  rw [head_word l]
  split_ifs with h₁ h₂ h₂
  · rw [equal_word _ _ (by omega) (by omega), if_pos (by omega)]
  · rw [equal_word _ _ (by omega) (by omega), if_neg (by omega)]
  · rw [equal_word _ _ (by omega) (by omega), if_pos (by omega)]
  · rw [equal_word _ _ (by omega) (by omega), if_neg (by omega)]

theorem spread_holds : ∀ (k : Fin 256) (l : Fin 1024), iblk m c 9 t (ix2 k l) = if k.val % 128 = l.val / 64 then (1 : EReal) else 0 := by
  intro k l
  have e : ((View.whole main_v27).slice (win0_9.rect t)).emb (ix2 k l) = ix2 k l := by
    blk_ext [idx9 t]
  blk_simp [iblk, V]
  rw [e]
  simp only [hostOps0, hostOps0_1, hostOps0_2, List.flatten_cons, List.flatten_nil, List.append_nil, List.cons_append, List.nil_append]
  entry_read
  simp only [StableHlo.TRef.ofBuf_toBuf]
  pointwise
  simp only [StableHlo.TRef.ofBuf, StableHlo.TRef.toBuf, cast_cast, cast_eq]
  pointwise
  exact spread_word k l

end Cert.Merge.Point

end
-- ==== Proof.MergeHolds.lean ====
/-
  The layer's arrays as the merge program's arguments give them, and the blocks that the pipeline brings at a grid point: each holds
  the rows of its array that the point works on.
-/
module

public import proofs.«01_k».proof.Proof.MergeBlock
public import proofs.«01_k».proof.Proof.MergeSpread
public import proofs.«01_k».proof.Proof.Gen.Kernel3Ideal.Value
public import Idealize.ShloMosaic.Lib.Pipeline.ValueKit
public import Idealize.ShloMosaic.Lib.Pointwise
public import Idealize.ShloMosaic.Lib.Claim

@[expose] public section

set_option maxRecDepth 16384

noncomputable section

namespace Cert.Merge.Point

open Idealize.ShloMosaic Idealize.ShloMosaic.TcCoe Idealize.SL.Sem
open Cert.Kernel3Ideal Cert.Kernel3Ideal.Gen
open Cert.Merge.Block (at_)

variable (m : (ℓ : Loc nD τ sig) → Buf (Elt Ideal) ℓ)

/-- The number of a grid point. -/
abbrev num (t : Fin cfg0.N) : Fin 32 := ⟨t.val, lt_of_lt_of_eq t.isLt N_0⟩

/-- The row that plane `q` of a planar block holds at position `n`. -/
abbrev planar (t : Fin cfg0.N) (q : Fin 16) (n : Fin 32) : Fin 16384 := at_ (num t) ⟨n * 16 + q, by omega⟩

/-- The blocks the pipeline brings at point `t` hold the layer's arrays; the second and third branch's arrive in planes, plane `q`
    every sixteenth row from row `q` on. -/
structure Holds (A : Layer) (c : Dev nD) (t : Fin cfg0.N) : Prop where
  x : ∀ (r : Fin 512) (l : Fin 1024), iblk m c 0 t (ix2 r l) = A.x (at_ (num t) r) l
  o1 : ∀ (r : Fin 512) (l : Fin 1024), iblk m c 1 t (ix3 (0 : Fin 1) r l) = A.o1 (at_ (num t) r) l
  s1 : ∀ (r : Fin 512) (k : Fin 128), iblk m c 2 t (ix3 (0 : Fin 1) r k) = A.s1 (at_ (num t) r) k
  o4 : ∀ (q : Fin 16) (n : Fin 32) (l : Fin 1024), iblk m c 3 t (ix3 q n l) = A.o4 (planar t q n) l
  s4 : ∀ (q : Fin 16) (n : Fin 32) (k : Fin 128), iblk m c 4 t (ix3 q n k) = A.s4 (planar t q n) k
  o16 : ∀ (q : Fin 16) (n : Fin 32) (l : Fin 1024), iblk m c 5 t (ix3 q n l) = A.o16 (planar t q n) l
  s16 : ∀ (q : Fin 16) (n : Fin 32) (k : Fin 128), iblk m c 6 t (ix3 q n k) = A.s16 (planar t q n) k
  mod1 : ∀ l : Fin 6144, iblk m c 7 t (ix2 (0 : Fin 1) l) = A.mod l
  wO : ∀ k l : Fin 1024, iblk m c 8 t (ix2 k l) = A.wO k l
  spread : ∀ (k : Fin 256) (l : Fin 1024), iblk m c 9 t (ix2 k l) = if k.val % 128 = l.val / 64 then (1 : EReal) else 0
  mod : ∀ l : Fin 6144, iblk m c 10 t (ix2 (0 : Fin 1) l) = A.mod l
  norm : ∀ l : Fin 1024, iblk m c 11 t (ix2 (0 : Fin 1) l) = A.norm l
  wUp : ∀ (k : Fin 1024) (j : Fin 5632), iblk m c 12 t (ix3 (0 : Fin 1) k j) = A.wUp k j
  convW : ∀ (a : Fin 3) (j : Fin 2816), iblk m c 13 t (ix3 (0 : Fin 1) a j) = A.convW a j
  convB : ∀ j : Fin 2816, iblk m c 14 t (ix3 (0 : Fin 1) (0 : Fin 1) j) = A.convB j
  wDown : ∀ (k : Fin 2816) (l : Fin 1024), iblk m c 15 t (ix3 (0 : Fin 1) k l) = A.wDown k l
  last : ∀ l : Fin 1024, iblk m c 16 t (ix2 (0 : Fin 1) l) = A.last l

variable (c : Dev nD)

/-- The program's arguments as the layer's arrays. -/
def layer : Layer where
  x r l := (m ((c : Thread nD τ).loc main_arg0) : FVec Ideal S1x16384x1024 .f32) (ix3 0 r l)
  o1 r l := (m ((c : Thread nD τ).loc main_arg1) : FVec Ideal S1x16384x1024 .f32) (ix3 0 r l)
  s1 r k := (m ((c : Thread nD τ).loc main_arg2) : FVec Ideal S1x16384x128 .f32) (ix3 0 r k)
  o4 r l := (m ((c : Thread nD τ).loc main_arg3) : FVec Ideal S1x16384x1024 .f32) (ix3 0 r l)
  s4 r k := (m ((c : Thread nD τ).loc main_arg4) : FVec Ideal S1x16384x128 .f32) (ix3 0 r k)
  o16 r l := (m ((c : Thread nD τ).loc main_arg5) : FVec Ideal S1x16384x1024 .f32) (ix3 0 r l)
  s16 r k := (m ((c : Thread nD τ).loc main_arg6) : FVec Ideal S1x16384x128 .f32) (ix3 0 r k)
  mod l := (m ((c : Thread nD τ).loc main_arg7) : FVec Ideal S1x6144 .f32) (ix2 0 l)
  wO k l := (m ((c : Thread nD τ).loc main_arg8) : FVec Ideal S1x1024x1024 .f32) (ix3 0 k l)
  norm l := (m ((c : Thread nD τ).loc main_arg9) : FVec Ideal S2x2x1024 .f32) (ix3 1 1 l)
  wUp k j := (m ((c : Thread nD τ).loc main_arg10) : FVec Ideal S2x1024x5632 .f32) (ix3 1 k j)
  convW a j := (m ((c : Thread nD τ).loc main_arg11) : FVec Ideal S2x3x2816 .f32) (ix3 1 a j)
  convB j := (m ((c : Thread nD τ).loc main_arg12) : FVec Ideal S2x2816 .f32) (ix2 1 j)
  wDown k l := (m ((c : Thread nD τ).loc main_arg13) : FVec Ideal S2x2816x1024 .f32) (ix3 1 k l)
  last l := (m ((c : Thread nD τ).loc main_arg14) : FVec Ideal S1024 .f32) (ix1 l)

/-- The windows' index maps: the row blocks move with the point, the other blocks stay. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, 0] ∧ win0_8.index t = ![0, 0] ∧ win0_9.index t = ![0, 0] ∧ win0_10.index t = ![0, 0] ∧ win0_11.index t = ![0, 0]
    ∧ win0_12.index t = ![1, 0, 0] ∧ win0_13.index t = ![1, 0, 0] ∧ win0_14.index t = ![1, 0, 0] ∧ win0_15.index t = ![1, 0, 0]
    ∧ win0_16.index t = ![0, 0] ∧ win0_17.index t = ![t.val, 0] ∧ win0_18.index t = ![0, 0] :=
  (by decide +kernel : ∀ t : Fin grid0.N, _)

variable (t : Fin cfg0.N)

theorem x_holds : ∀ (r : Fin 512) (l : Fin 1024), iblk m c 0 t (ix2 r l) = (layer m c).x (at_ (num t) r) l := by
  intro r l
  show _ = (m ((c : Thread nD τ).loc main_arg0) : FVec Ideal S1x16384x1024 .f32) (ix3 0 (at_ (num t) r) l)
  unfold at_ num
  have e : ((View.whole main_v15).slice (win0_0.rect t)).emb (ix2 r l) = ix2 (at_ (num t) r) l := by
    blk_ext [idx t]
  blk_simp [iblk, V]
  rw [e]
  simp only [hostOps0, hostOps0_1, hostOps0_2, List.flatten_cons, List.flatten_nil, List.append_nil, List.cons_append, List.nil_append]
  entry_read
  pointwise

theorem o1_holds : ∀ (r : Fin 512) (l : Fin 1024), iblk m c 1 t (ix3 (0 : Fin 1) r l) = (layer m c).o1 (at_ (num t) r) l := by
  intro r l
  show _ = (m ((c : Thread nD τ).loc main_arg1) : FVec Ideal S1x16384x1024 .f32) (ix3 0 (at_ (num t) r) l)
  unfold at_ num
  have e : ((View.whole main_v0).slice (win0_1.rect t)).emb (ix3 (0 : Fin 1) r l) = ix3 (0 : Fin 1) (at_ (num t) r) l := by
    blk_ext [idx t]
  blk_simp [iblk, V]
  rw [e]
  simp only [hostOps0, hostOps0_1, hostOps0_2, List.flatten_cons, List.flatten_nil, List.append_nil, List.cons_append, List.nil_append]
  entry_read
  pointwise

theorem s1_holds : ∀ (r : Fin 512) (k : Fin 128), iblk m c 2 t (ix3 (0 : Fin 1) r k) = (layer m c).s1 (at_ (num t) r) k := by
  intro r k
  show _ = (m ((c : Thread nD τ).loc main_arg2) : FVec Ideal S1x16384x128 .f32) (ix3 0 (at_ (num t) r) k)
  unfold at_ num
  blk_ext! [iblk, V, idx t]

theorem o4_holds : ∀ (q : Fin 16) (n : Fin 32) (l : Fin 1024), iblk m c 3 t (ix3 q n l) = (layer m c).o4 (planar t q n) l := by
  intro q n l
  show _ = (m ((c : Thread nD τ).loc main_arg3) : FVec Ideal S1x16384x1024 .f32) (ix3 0 (planar t q n) l)
  unfold planar at_ num
  have e : ((View.whole main_v4).slice (win0_3.rect t)).emb (ix3 q n l)
      = ix3 q (⟨t.val * 32 + n, by have := (num t).isLt; simp only [num] at this; omega⟩ : Fin 1024) l := by
    blk_ext [idx t]
  blk_simp [iblk, V]
  rw [e]
  simp only [hostOps0, hostOps0_1, hostOps0_2, List.flatten_cons, List.flatten_nil, List.append_nil, List.cons_append, List.nil_append]
  entry_read
  pointwise
  have e₁ : (t.val * 32 + n.val) * 16 + q.val = t.val * 512 + (n.val * 16 + q.val) := by omega
  simp only [e₁]

theorem s4_holds : ∀ (q : Fin 16) (n : Fin 32) (k : Fin 128), iblk m c 4 t (ix3 q n k) = (layer m c).s4 (planar t q n) k := by
  intro q n k
  show _ = (m ((c : Thread nD τ).loc main_arg4) : FVec Ideal S1x16384x128 .f32) (ix3 0 (planar t q n) k)
  unfold planar at_ num
  have e : ((View.whole main_v7).slice (win0_4.rect t)).emb (ix3 q n k)
      = ix3 q (⟨t.val * 32 + n, by have := (num t).isLt; simp only [num] at this; omega⟩ : Fin 1024) k := by
    blk_ext [idx t]
  blk_simp [iblk, V]
  rw [e]
  simp only [hostOps0, hostOps0_1, hostOps0_2, List.flatten_cons, List.flatten_nil, List.append_nil, List.cons_append, List.nil_append]
  entry_read
  pointwise
  have e₁ : (t.val * 32 + n.val) * 16 + q.val = t.val * 512 + (n.val * 16 + q.val) := by omega
  simp only [e₁]

theorem o16_holds : ∀ (q : Fin 16) (n : Fin 32) (l : Fin 1024), iblk m c 5 t (ix3 q n l) = (layer m c).o16 (planar t q n) l := by
  intro q n l
  show _ = (m ((c : Thread nD τ).loc main_arg5) : FVec Ideal S1x16384x1024 .f32) (ix3 0 (planar t q n) l)
  unfold planar at_ num
  have e : ((View.whole main_v11).slice (win0_5.rect t)).emb (ix3 q n l)
      = ix3 q (⟨t.val * 32 + n, by have := (num t).isLt; simp only [num] at this; omega⟩ : Fin 1024) l := by
    blk_ext [idx t]
  blk_simp [iblk, V]
  rw [e]
  simp only [hostOps0, hostOps0_1, hostOps0_2, List.flatten_cons, List.flatten_nil, List.append_nil, List.cons_append, List.nil_append]
  entry_read
  pointwise
  have e₁ : (t.val * 32 + n.val) * 16 + q.val = t.val * 512 + (n.val * 16 + q.val) := by omega
  simp only [e₁]

theorem s16_holds : ∀ (q : Fin 16) (n : Fin 32) (k : Fin 128), iblk m c 6 t (ix3 q n k) = (layer m c).s16 (planar t q n) k := by
  intro q n k
  show _ = (m ((c : Thread nD τ).loc main_arg6) : FVec Ideal S1x16384x128 .f32) (ix3 0 (planar t q n) k)
  unfold planar at_ num
  have e : ((View.whole main_v14).slice (win0_6.rect t)).emb (ix3 q n k)
      = ix3 q (⟨t.val * 32 + n, by have := (num t).isLt; simp only [num] at this; omega⟩ : Fin 1024) k := by
    blk_ext [idx t]
  blk_simp [iblk, V]
  rw [e]
  simp only [hostOps0, hostOps0_1, hostOps0_2, List.flatten_cons, List.flatten_nil, List.append_nil, List.cons_append, List.nil_append]
  entry_read
  pointwise
  have e₁ : (t.val * 32 + n.val) * 16 + q.val = t.val * 512 + (n.val * 16 + q.val) := by omega
  simp only [e₁]

theorem mod1_holds : ∀ l : Fin 6144, iblk m c 7 t (ix2 (0 : Fin 1) l) = (layer m c).mod l := by
  intro l
  show _ = (m ((c : Thread nD τ).loc main_arg7) : FVec Ideal S1x6144 .f32) (ix2 0 l)
  blk_ext! [iblk, V, idx t]

theorem wO_holds : ∀ k l : Fin 1024, iblk m c 8 t (ix2 k l) = (layer m c).wO k l := by
  intro k l
  show _ = (m ((c : Thread nD τ).loc main_arg8) : FVec Ideal S1x1024x1024 .f32) (ix3 0 k l)
  have e : ((View.whole main_v17).slice (win0_8.rect t)).emb (ix2 k l) = ix2 k l := by
    blk_ext [idx t]
  blk_simp [iblk, V]
  rw [e]
  simp only [hostOps0, hostOps0_1, hostOps0_2, List.flatten_cons, List.flatten_nil, List.append_nil, List.cons_append, List.nil_append]
  entry_read
  pointwise

theorem mod_holds : ∀ l : Fin 6144, iblk m c 10 t (ix2 (0 : Fin 1) l) = (layer m c).mod l := by
  intro l
  show _ = (m ((c : Thread nD τ).loc main_arg7) : FVec Ideal S1x6144 .f32) (ix2 0 l)
  blk_ext! [iblk, V, idx t]

theorem norm_holds : ∀ l : Fin 1024, iblk m c 11 t (ix2 (0 : Fin 1) l) = (layer m c).norm l := by
  intro l
  show _ = (m ((c : Thread nD τ).loc main_arg9) : FVec Ideal S2x2x1024 .f32) (ix3 1 1 l)
  have e : ((View.whole main_v30).slice (win0_11.rect t)).emb (ix2 (0 : Fin 1) l) = ix2 (0 : Fin 1) l := by
    blk_ext [idx t]
  blk_simp [iblk, V]
  rw [e]
  simp only [hostOps0, hostOps0_1, hostOps0_2, List.flatten_cons, List.flatten_nil, List.append_nil, List.cons_append, List.nil_append]
  entry_read
  pointwise

theorem wUp_holds : ∀ (k : Fin 1024) (j : Fin 5632), iblk m c 12 t (ix3 (0 : Fin 1) k j) = (layer m c).wUp k j := by
  intro k j
  show _ = (m ((c : Thread nD τ).loc main_arg10) : FVec Ideal S2x1024x5632 .f32) (ix3 1 k j)
  have e : ((View.whole main_v31).slice (win0_12.rect t)).emb (ix3 (0 : Fin 1) k j) = ix3 (1 : Fin 2) k j := by
    blk_ext [idx t]
  blk_simp [iblk, V]
  rw [e]
  simp only [hostOps0, hostOps0_1, hostOps0_2, List.flatten_cons, List.flatten_nil, List.append_nil, List.cons_append, List.nil_append]
  entry_read
  pointwise

theorem convW_holds : ∀ (a : Fin 3) (j : Fin 2816), iblk m c 13 t (ix3 (0 : Fin 1) a j) = (layer m c).convW a j := by
  intro a j
  show _ = (m ((c : Thread nD τ).loc main_arg11) : FVec Ideal S2x3x2816 .f32) (ix3 1 a j)
  blk_ext! [iblk, V, idx t]

theorem convB_holds : ∀ j : Fin 2816, iblk m c 14 t (ix3 (0 : Fin 1) (0 : Fin 1) j) = (layer m c).convB j := by
  intro j
  show _ = (m ((c : Thread nD τ).loc main_arg12) : FVec Ideal S2x2816 .f32) (ix2 1 j)
  have e : ((View.whole main_v32).slice (win0_14.rect t)).emb (ix3 (0 : Fin 1) (0 : Fin 1) j) = ix3 (1 : Fin 2) (0 : Fin 1) j := by
    blk_ext [idx t]
  blk_simp [iblk, V]
  rw [e]
  simp only [hostOps0, hostOps0_1, hostOps0_2, List.flatten_cons, List.flatten_nil, List.append_nil, List.cons_append, List.nil_append]
  entry_read
  pointwise

theorem wDown_holds : ∀ (k : Fin 2816) (l : Fin 1024), iblk m c 15 t (ix3 (0 : Fin 1) k l) = (layer m c).wDown k l := by
  intro k l
  show _ = (m ((c : Thread nD τ).loc main_arg13) : FVec Ideal S2x2816x1024 .f32) (ix3 1 k l)
  have e : ((View.whole main_v33).slice (win0_15.rect t)).emb (ix3 (0 : Fin 1) k l) = ix3 (1 : Fin 2) k l := by
    blk_ext [idx t]
  blk_simp [iblk, V]
  rw [e]
  simp only [hostOps0, hostOps0_1, hostOps0_2, List.flatten_cons, List.flatten_nil, List.append_nil, List.cons_append, List.nil_append]
  entry_read
  pointwise

theorem last_holds : ∀ l : Fin 1024, iblk m c 16 t (ix2 (0 : Fin 1) l) = (layer m c).last l := by
  intro l
  show _ = (m ((c : Thread nD τ).loc main_arg14) : FVec Ideal S1024 .f32) (ix1 l)
  have e : ((View.whole main_v34).slice (win0_16.rect t)).emb (ix2 (0 : Fin 1) l) = ix2 (0 : Fin 1) l := by
    blk_ext [idx t]
  blk_simp [iblk, V]
  rw [e]
  simp only [hostOps0, hostOps0_1, hostOps0_2, List.flatten_cons, List.flatten_nil, List.append_nil, List.cons_append, List.nil_append]
  entry_read
  pointwise

/-- Every block at a grid point holds its rows of the layer's arrays. -/
theorem holds : Holds m (layer m c) c t :=
  ⟨x_holds m c t, o1_holds m c t, s1_holds m c t, o4_holds m c t, s4_holds m c t, o16_holds m c t, s16_holds m c t, mod1_holds m c t, wO_holds m c t, spread_holds m c t, mod_holds m c t, norm_holds m c t, wUp_holds m c t, convW_holds m c t, convB_holds m c t, wDown_holds m c t, last_holds m c t⟩

end Cert.Merge.Point

end
-- ==== Proof.MergeStage.lean ====
/-
  The staging buffers that put the strided branches' rows back in order. A buffer [8, 512, 128] of outputs: store number `k` of 128
  writes rows `k / 8`, `k / 8 + 16`, … of slab `k % 8`. A buffer [512, 128] of statistics: store number `k` of 16 writes rows `k`,
  `k + 16`, …. If each stores its rows of one function, the buffer holds that function.
-/
module

public import Idealize.ShloMosaic.Lib.Pipeline.StridedRows
public import Idealize.ShloMosaic.Lib.Pointwise
public import proofs.«01_k».proof.Proof.Gen.Kernel3Ideal.Skeleton

@[expose] public section

noncomputable section

namespace Cert.Merge.Stage

open Idealize.ShloMosaic Idealize.ShloMosaic.TcCoe Idealize.SL.Sem
open Cert.Kernel3Ideal Cert.Kernel3Ideal.Gen

/-- The rectangle of store `k` of outputs. -/
abbrev rows (k : ℕ) : Rect S8x512x128 :=
  StridedRows.rowRect (C := 8) (N := 32) (DP := 16) (D := 16) (L := 128) le_rfl ⟨k % 8, by omega⟩ ⟨k / 8 % 16, by omega⟩

/-- The list `L`, last store first, is stores 0 to `k - 1`, each of its rows of `V`. -/
def Stores (V : Fin 8 → Fin 16 → Fin 32 → Fin 128 → EReal) : ℕ → List (View.Piece (Elt Ideal) S8x512x128 .f32) → Prop
  | 0, L => L = []
  | k + 1, L => ∃ (w : (rows k).shape.Idx → EReal) (L' : List (View.Piece (Elt Ideal) S8x512x128 .f32)),
      L = (⟨rows k, w⟩ : View.Piece (Elt Ideal) S8x512x128 .f32) :: L' ∧
        (∀ (n : Fin 32) (l : Fin 128), w (ix3 (0 : Fin 1) n l) = V ⟨k % 8, by omega⟩ ⟨k / 8 % 16, by omega⟩ n l) ∧ Stores V k L'

section
variable (V : Fin 8 → Fin 16 → Fin 32 → Fin 128 → EReal)

theorem Stores.value : ∀ (k : ℕ) (L : List (View.Piece (Elt Ideal) S8x512x128 .f32)), Stores V k L →
    ∀ p ∈ L, ∀ y : p.1.shape.Idx, p.2 y = StridedRows.planeValue (Val := Elt Ideal) (e := .f32) (C := 8) (N := 32) (DP := 16) (D := 16) (L := 128) V (p.1.emb y)
  | 0, L, h, p, hp, _ => by rw [show L = [] from h] at hp; exact absurd hp List.not_mem_nil
  | k + 1, _, ⟨w, L', rfl, hw, h'⟩, p, hp, y => by
    rcases List.mem_cons.mp hp with rfl | hp
    · refine StridedRows.rowRect_payload_eq_planeValue (Val := Elt Ideal) (e := .f32) V le_rfl _ _ w (fun x => ?_) y
      refine Eq.trans (congrArg w (funext fun a => ?_)) (hw (x 1) (x 2))
      match a with
      | ⟨0, _⟩ => exact Subsingleton.elim (α := Fin 1) _ _
      | ⟨1, _⟩ => rfl
      | ⟨2, _⟩ => rfl
    · exact Stores.value k L' h' p hp y

theorem Stores.mem : ∀ (k : ℕ) (L : List (View.Piece (Elt Ideal) S8x512x128 .f32)), Stores V k L → ∀ i < k, ∃ w, (⟨rows i, w⟩ : View.Piece (Elt Ideal) S8x512x128 .f32) ∈ L
  | k + 1, _, ⟨w, L', rfl, _, h'⟩, i, hi => by
    rcases Nat.lt_succ_iff_lt_or_eq.mp hi with hi | rfl
    · obtain ⟨w', hw'⟩ := Stores.mem k L' h' i hi
      exact ⟨w', List.mem_cons_of_mem _ hw'⟩
    · exact ⟨w, List.mem_cons_self⟩

/-- After all 128 stores the buffer holds `V`: slab `o`, row `r` is row `r % 16` of the stores, at position `r / 16`. -/
theorem Stores.read (L : List (View.Piece (Elt Ideal) S8x512x128 .f32)) (h : Stores V 128 L) (o : Fin 8) (r : Fin 512) (l : Fin 128) :
    View.canon L (ix3 o r l : S8x512x128.Idx) = V o ⟨r % 16, by omega⟩ ⟨r / 16, by omega⟩ l := by
  obtain ⟨w, hw⟩ := h.mem V 128 L (r % 16 * 8 + o) (by omega)
  rw [View.canon_apply_of_pieces _ L (h.value V 128 L) (ix3 o r l) ⟨_, hw, ?_⟩]
  · unfold StridedRows.planeValue
    exact dif_pos (show r.val % 16 < 16 ∧ r.val / 16 < 32 by omega)
  · rw [LoadRect.mem_set]
    intro a
    match a with
    | ⟨0, _⟩ => exact ⟨0, Nat.one_pos, show o.val = (r.val % 16 * 8 + o.val) % 8 + 1 * 0 by omega⟩
    | ⟨1, _⟩ => exact ⟨r.val / 16, show r.val / 16 < 32 by omega, show r.val = (r.val % 16 * 8 + o.val) / 8 % 16 + 16 * (r.val / 16) by omega⟩
    | ⟨2, _⟩ => exact ⟨l.val, l.isLt, show l.val = 0 + 1 * l.val by omega⟩

end

/-- The rectangle of store `k` of statistics. -/
def strip (k : ℕ) : Rect S512x128 where
  off := ![k % 16, 0]
  size := ![32, 128]
  stride := ![16, 1]
  inb a := by
    match a with
    | ⟨0, _⟩ => exact Or.inr (show k % 16 + 16 * (32 - 1) < 512 by omega)
    | ⟨1, _⟩ => exact Or.inr (show 0 + 1 * (128 - 1) < 128 by omega)
  stride_pos a := by
    match a with
    | ⟨0, _⟩ => exact (show 0 < 16 by omega)
    | ⟨1, _⟩ => exact Nat.one_pos

/-- The list `L`, last store first, is stores 0 to `k - 1` of statistics, each of its rows of `V`. -/
def Strips (V : Fin 16 → Fin 32 → Fin 128 → EReal) : ℕ → List (View.Piece (Elt Ideal) S512x128 .f32) → Prop
  | 0, L => L = []
  | k + 1, L => ∃ (w : (strip k).shape.Idx → EReal) (L' : List (View.Piece (Elt Ideal) S512x128 .f32)),
      L = (⟨strip k, w⟩ : View.Piece (Elt Ideal) S512x128 .f32) :: L' ∧
        (∀ (n : Fin 32) (l : Fin 128), w (ix2 n l) = V ⟨k % 16, by omega⟩ n l) ∧ Strips V k L'

section
variable (V : Fin 16 → Fin 32 → Fin 128 → EReal)

/-- What the statistics' buffer holds. -/
abbrev stripValue (y : S512x128.Idx) : EReal := V ⟨(y 0).val % 16, by omega⟩ ⟨(y 0).val / 16, by have : (y 0).val < 512 := (y 0).isLt; omega⟩ (y 1)

theorem Strips.value : ∀ (k : ℕ) (L : List (View.Piece (Elt Ideal) S512x128 .f32)), Strips V k L →
    ∀ p ∈ L, ∀ y : p.1.shape.Idx, p.2 y = stripValue V (p.1.emb y)
  | 0, L, h, p, hp, _ => by rw [show L = [] from h] at hp; exact absurd hp List.not_mem_nil
  | k + 1, _, ⟨w, L', rfl, hw, h'⟩, p, hp, y => by
    rcases List.mem_cons.mp hp with rfl | hp
    · refine Eq.trans (congrArg w (a₂ := ix2 (y 0) (y 1)) (funext fun a => ?_)) ((hw (y 0) (y 1)).trans ?_)
      · match a with
        | ⟨0, _⟩ => rfl
        | ⟨1, _⟩ => rfl
      · have h0 : (y 0).val < 32 := (y 0).isLt
        have e0 : ((strip k).emb y 0).val = k % 16 + 16 * (y 0).val := rfl
        have e1 : (strip k).emb y 1 = y 1 := Fin.ext (show 0 + 1 * (y 1).val = (y 1).val by omega)
        have e2 : (⟨k % 16, by omega⟩ : Fin 16) = ⟨((strip k).emb y 0).val % 16, by omega⟩ := Fin.ext (show k % 16 = ((strip k).emb y 0).val % 16 by omega)
        have e3 : (y 0).val = ((strip k).emb y 0).val / 16 := by omega
        exact congr (congr (congrArg V e2) (Fin.ext e3)) e1.symm
    · exact Strips.value k L' h' p hp y

theorem Strips.mem : ∀ (k : ℕ) (L : List (View.Piece (Elt Ideal) S512x128 .f32)), Strips V k L → ∀ i < k, ∃ w, (⟨strip i, w⟩ : View.Piece (Elt Ideal) S512x128 .f32) ∈ L
  | k + 1, _, ⟨w, L', rfl, _, h'⟩, i, hi => by
    rcases Nat.lt_succ_iff_lt_or_eq.mp hi with hi | rfl
    · obtain ⟨w', hw'⟩ := Strips.mem k L' h' i hi
      exact ⟨w', List.mem_cons_of_mem _ hw'⟩
    · exact ⟨w, List.mem_cons_self⟩

/-- After all 16 stores the statistics' buffer holds `V`. -/
theorem Strips.read (L : List (View.Piece (Elt Ideal) S512x128 .f32)) (h : Strips V 16 L) (r : Fin 512) (l : Fin 128) :
    View.canon L (ix2 r l : S512x128.Idx) = V ⟨r % 16, by omega⟩ ⟨r / 16, by omega⟩ l := by
  obtain ⟨w, hw⟩ := h.mem V 16 L (r % 16) (by omega)
  refine (View.canon_apply_of_pieces _ L (h.value V 16 L) (ix2 r l) ⟨_, hw, ?_⟩).trans rfl
  rw [LoadRect.mem_set]
  intro a
  match a with
  | ⟨0, _⟩ => exact ⟨r.val / 16, show r.val / 16 < 32 by omega, show r.val = r.val % 16 % 16 + 16 * (r.val / 16) by omega⟩
  | ⟨1, _⟩ => exact ⟨l.val, l.isLt, show l.val = 0 + 1 * l.val by omega⟩

end

end Cert.Merge.Stage

end
-- ==== Proof.MergePoint.lean ====
/-
  The two staging buffers and the other operands of a grid point, gathered: what each holds of the layer's arrays.
-/
module

public import proofs.«01_k».proof.Proof.MergeHolds
public import proofs.«01_k».proof.Proof.MergeStage
public import Idealize.ShloMosaic.Lib.WritesUnit
public import Idealize.ShloMosaic.Lib.Pipeline.ReadBack

@[expose] public section

set_option maxRecDepth 16384

noncomputable section

namespace Cert.Merge.Point

open Idealize.ShloMosaic Idealize.ShloMosaic.TcCoe Idealize.SL.Sem
open Cert.Kernel3Ideal Cert.Kernel3Ideal.Gen
open Cert.Merge.Block (at_)

variable (m : (ℓ : Loc nD τ sig) → Buf (Elt Ideal) ℓ)

/-- The staged outputs in the block `B`, by slab, row within sixteen, position and lane. -/
abbrev staged (B : S16x32x1024.Idx → EReal) (o : Fin 8) (q : Fin 16) (n : Fin 32) (l : Fin 128) : EReal :=
  B (ix3 q n (⟨128 * o + l, by omega⟩ : Fin 1024))

variable (A : Layer) (c : Dev nD)

/-- The newest store, read at a place its rectangle holds. -/
theorem canon_top {S : Shape} {e : EltTy} (r : Rect S) (w : r.shape.Idx → Elt Ideal e) (L : List (View.Piece (Elt Ideal) S e)) (y : S.Idx) (x : r.shape.Idx)
    (hx : ∀ a, (y a).val = r.off a + r.stride a * (x a).val) : View.canon ((⟨r, w⟩ : View.Piece (Elt Ideal) S e) :: L) y = w x :=
  (congrArg _ (r.emb_eq_of_coords x y hx).symm).trans (View.canon_cons_emb r w L x)

/-- A slab of the staged outputs of stride 4, after the stores `L`. -/
abbrev chunk4 (L : List (View.Piece (Elt Ideal) S8x512x128 .f32)) (off : Fin 3 → ℕ) (inb : ∀ a, off a + (![1, 512, 128] : Fin 3 → ℕ) a ≤ S8x512x128.size a) :
    FVec Ideal S1x512x128 .f32 :=
  (View.whole cc0_scratch1).readCov L (Rect.unit (s := S8x512x128) off ![1, 512, 128] inb).toLoadRect

theorem chunk4_eq (B : S16x32x1024.Idx → EReal) (L : List (View.Piece (Elt Ideal) S8x512x128 .f32)) (hS : Stage.Stores (staged B) 128 L)
    (o : Fin 8) (b : ℕ) (hb : b = 128 * o.val) (inb : ∀ a, (![o.val, 0, 0] : Fin 3 → ℕ) a + (![1, 512, 128] : Fin 3 → ℕ) a ≤ S8x512x128.size a) (r : Fin 512) (k : Fin 128) :
    chunk4 L ![o.val, 0, 0] inb (ix3 (0 : Fin 1) r k) = B (ix3 (⟨r % 16, by omega⟩ : Fin 16) (⟨r / 16, by omega⟩ : Fin 32) (⟨b + k, by omega⟩ : Fin 1024)) := by
  subst hb
  refine (congrFun (View.readCov_eq_canon' _ _ _) _).trans ?_
  refine Eq.trans (congrArg (View.canon L) (a₂ := ix3 o r k) (funext fun a => Fin.ext ?_)) ?_
  · match a with
    | ⟨0, _⟩ => exact (show o.val + 1 * 0 = o.val by omega)
    | ⟨1, _⟩ => exact (show 0 + 1 * r.val = r.val by omega)
    | ⟨2, _⟩ => exact (show 0 + 1 * k.val = k.val by omega)
  · exact hS.read (staged B) L o r k

/-- A slab of the staged outputs of stride 16, after the stores `L`. -/
abbrev chunk16 (L : List (View.Piece (Elt Ideal) S8x512x128 .f32)) (off : Fin 3 → ℕ) (inb : ∀ a, off a + (![1, 512, 128] : Fin 3 → ℕ) a ≤ S8x512x128.size a) :
    FVec Ideal S1x512x128 .f32 :=
  (View.whole cc0_scratch2).readCov L (Rect.unit (s := S8x512x128) off ![1, 512, 128] inb).toLoadRect

theorem chunk16_eq (B : S16x32x1024.Idx → EReal) (L : List (View.Piece (Elt Ideal) S8x512x128 .f32)) (hS : Stage.Stores (staged B) 128 L)
    (o : Fin 8) (b : ℕ) (hb : b = 128 * o.val) (inb : ∀ a, (![o.val, 0, 0] : Fin 3 → ℕ) a + (![1, 512, 128] : Fin 3 → ℕ) a ≤ S8x512x128.size a) (r : Fin 512) (k : Fin 128) :
    chunk16 L ![o.val, 0, 0] inb (ix3 (0 : Fin 1) r k) = B (ix3 (⟨r % 16, by omega⟩ : Fin 16) (⟨r / 16, by omega⟩ : Fin 32) (⟨b + k, by omega⟩ : Fin 1024)) := by
  subst hb
  refine (congrFun (View.readCov_eq_canon' _ _ _) _).trans ?_
  refine Eq.trans (congrArg (View.canon L) (a₂ := ix3 o r k) (funext fun a => Fin.ext ?_)) ?_
  · match a with
    | ⟨0, _⟩ => exact (show o.val + 1 * 0 = o.val by omega)
    | ⟨1, _⟩ => exact (show 0 + 1 * r.val = r.val by omega)
    | ⟨2, _⟩ => exact (show 0 + 1 * k.val = k.val by omega)
  · exact hS.read (staged B) L o r k

/-- The statistics of stride 4, after the stores `M`. -/
abbrev strips4 (M : List (View.Piece (Elt Ideal) S512x128 .f32)) : FVec Ideal S512x128 .f32 :=
  (View.whole cc0_scratch3).readCov M (Rect.unit (s := S512x128) ![0, 0] ![512, 128] inb_S512x128_S512x128_0_0).toLoadRect

theorem strips4_eq (B : S16x32x128.Idx → EReal) (M : List (View.Piece (Elt Ideal) S512x128 .f32)) (hM : Stage.Strips (fun q n k => B (ix3 q n k)) 16 M)
    (r : Fin 512) (k : Fin 128) : strips4 M (ix2 r k) = B (ix3 (⟨r % 16, by omega⟩ : Fin 16) (⟨r / 16, by omega⟩ : Fin 32) k) := by
  refine (congrFun (View.readCov_eq_canon' _ _ _) _).trans ?_
  refine Eq.trans (congrArg (View.canon M) (a₂ := ix2 r k) (funext fun a => Fin.ext ?_)) ?_
  · match a with
    | ⟨0, _⟩ => exact (show 0 + 1 * r.val = r.val by omega)
    | ⟨1, _⟩ => exact (show 0 + 1 * k.val = k.val by omega)
  · exact hM.read _ M r k

/-- The statistics of stride 16, after the stores `M`. -/
abbrev strips16 (M : List (View.Piece (Elt Ideal) S512x128 .f32)) : FVec Ideal S512x128 .f32 :=
  (View.whole cc0_scratch4).readCov M (Rect.unit (s := S512x128) ![0, 0] ![512, 128] inb_S512x128_S512x128_0_0).toLoadRect

theorem strips16_eq (B : S16x32x128.Idx → EReal) (M : List (View.Piece (Elt Ideal) S512x128 .f32)) (hM : Stage.Strips (fun q n k => B (ix3 q n k)) 16 M)
    (r : Fin 512) (k : Fin 128) : strips16 M (ix2 r k) = B (ix3 (⟨r % 16, by omega⟩ : Fin 16) (⟨r / 16, by omega⟩ : Fin 32) k) := by
  refine (congrFun (View.readCov_eq_canon' _ _ _) _).trans ?_
  refine Eq.trans (congrArg (View.canon M) (a₂ := ix2 r k) (funext fun a => Fin.ext ?_)) ?_
  · match a with
    | ⟨0, _⟩ => exact (show 0 + 1 * r.val = r.val by omega)
    | ⟨1, _⟩ => exact (show 0 + 1 * k.val = k.val by omega)
  · exact hM.read _ M r k

/-- Row `r % 16` of the planes, at position `r / 16`, is row `r` of the block. -/
theorem planar_eq (t : Fin cfg0.N) (r : Fin 512) : planar t (⟨r % 16, by omega⟩ : Fin 16) (⟨r / 16, by omega⟩ : Fin 32) = at_ (num t) r := by
  unfold planar
  exact congrArg (at_ (num t)) (Fin.ext (show r.val / 16 * 16 + r.val % 16 = r.val by omega))

theorem exists_of {Q : Block.Ops → Prop} (t : Fin cfg0.N) (H : Holds m A c t) (L4 L16 : List (View.Piece (Elt Ideal) S8x512x128 .f32)) (M4 M16 : List (View.Piece (Elt Ideal) S512x128 .f32))
    (s1 : FVec Ideal S1x512x128 .f32)
    (sp1 : FVec Ideal S256x1024 .bf16)
    (sp4 : FVec Ideal S256x1024 .bf16)
    (p1_0 : FVec Ideal S1x512x128 .bf16)
    (p1_1 : FVec Ideal S1x512x128 .bf16)
    (p1_2 : FVec Ideal S1x512x128 .bf16)
    (p1_3 : FVec Ideal S1x512x128 .bf16)
    (p1_4 : FVec Ideal S1x512x128 .bf16)
    (p1_5 : FVec Ideal S1x512x128 .bf16)
    (p1_6 : FVec Ideal S1x512x128 .bf16)
    (p1_7 : FVec Ideal S1x512x128 .bf16)
    (wO : FVec Ideal S1024x1024 .bf16)
    (x : FVec Ideal S512x1024 .f32)
    (g1 : FVec Ideal S1x1024 .f32)
    (norm : FVec Ideal S1x1024 .f32)
    (shift : FVec Ideal S1x1024 .f32)
    (scale : FVec Ideal S1x1024 .f32)
    (wa : FVec Ideal S1x1024x2816 .bf16)
    (wg : FVec Ideal S1x1024x2816 .bf16)
    (c0 : FVec Ideal S1x2816 .f32)
    (c1 : FVec Ideal S1x2816 .f32)
    (cb : FVec Ideal S1x1x2816 .f32)
    (cw0 : FVec Ideal S1x1x2816 .f32)
    (cw1 : FVec Ideal S1x1x2816 .f32)
    (cw2 : FVec Ideal S1x1x2816 .f32)
    (wd : FVec Ideal S1x2816x1024 .bf16)
    (g2 : FVec Ideal S1x1024 .f32)
    (fg : FVec Ideal S1x1024 .f32)
    (hQ : Q ⟨s1,
      strips4 M4,
      strips16 M16,
      sp1,
      sp4,
      chunk16 L16 ![0, 0, 0] inb_S8x512x128_S1x512x128_0_0_0,
      chunk16 L16 ![1, 0, 0] inb_S8x512x128_S1x512x128_1_0_0,
      chunk16 L16 ![2, 0, 0] inb_S8x512x128_S1x512x128_2_0_0,
      chunk16 L16 ![3, 0, 0] inb_S8x512x128_S1x512x128_3_0_0,
      chunk16 L16 ![4, 0, 0] inb_S8x512x128_S1x512x128_4_0_0,
      chunk16 L16 ![5, 0, 0] inb_S8x512x128_S1x512x128_5_0_0,
      chunk16 L16 ![6, 0, 0] inb_S8x512x128_S1x512x128_6_0_0,
      chunk16 L16 ![7, 0, 0] inb_S8x512x128_S1x512x128_7_0_0,
      p1_0,
      p1_1,
      p1_2,
      p1_3,
      p1_4,
      p1_5,
      p1_6,
      p1_7,
      chunk4 L4 ![0, 0, 0] inb_S8x512x128_S1x512x128_0_0_0,
      chunk4 L4 ![1, 0, 0] inb_S8x512x128_S1x512x128_1_0_0,
      chunk4 L4 ![2, 0, 0] inb_S8x512x128_S1x512x128_2_0_0,
      chunk4 L4 ![3, 0, 0] inb_S8x512x128_S1x512x128_3_0_0,
      chunk4 L4 ![4, 0, 0] inb_S8x512x128_S1x512x128_4_0_0,
      chunk4 L4 ![5, 0, 0] inb_S8x512x128_S1x512x128_5_0_0,
      chunk4 L4 ![6, 0, 0] inb_S8x512x128_S1x512x128_6_0_0,
      chunk4 L4 ![7, 0, 0] inb_S8x512x128_S1x512x128_7_0_0,
      wO,
      x,
      g1,
      norm,
      shift,
      scale,
      wa,
      wg,
      c0,
      c1,
      cb,
      cw0,
      cw1,
      cw2,
      wd,
      g2,
      fg⟩)
    (hS4 : Stage.Stores (staged (iblk m c 3 t)) 128 L4) (hM4 : Stage.Strips (fun q n k => iblk m c 4 t (ix3 q n k)) 16 M4)
    (hS16 : Stage.Stores (staged (iblk m c 5 t)) 128 L16) (hM16 : Stage.Strips (fun q n k => iblk m c 6 t (ix3 q n k)) 16 M16)
    (h_s1 : ∀ (r : Fin 512) (k : Fin 128), s1 (ix3 (0 : Fin 1) r k) = A.s1 (at_ (num t) r) k)
    (h_sp1 : ∀ (k : Fin 256) (l : Fin 1024), sp1 (ix2 k l) = if k.val % 128 = l.val / 64 then (1 : EReal) else 0)
    (h_sp4 : ∀ (k : Fin 256) (l : Fin 1024), sp4 (ix2 k l) = if k.val % 128 = l.val / 64 then (1 : EReal) else 0)
    (h_p1_0 : ∀ (r : Fin 512) (k : Fin 128), p1_0 (ix3 (0 : Fin 1) r k) = A.o1 (at_ (num t) r) ⟨0 + k, by omega⟩)
    (h_p1_1 : ∀ (r : Fin 512) (k : Fin 128), p1_1 (ix3 (0 : Fin 1) r k) = A.o1 (at_ (num t) r) ⟨128 + k, by omega⟩)
    (h_p1_2 : ∀ (r : Fin 512) (k : Fin 128), p1_2 (ix3 (0 : Fin 1) r k) = A.o1 (at_ (num t) r) ⟨256 + k, by omega⟩)
    (h_p1_3 : ∀ (r : Fin 512) (k : Fin 128), p1_3 (ix3 (0 : Fin 1) r k) = A.o1 (at_ (num t) r) ⟨384 + k, by omega⟩)
    (h_p1_4 : ∀ (r : Fin 512) (k : Fin 128), p1_4 (ix3 (0 : Fin 1) r k) = A.o1 (at_ (num t) r) ⟨512 + k, by omega⟩)
    (h_p1_5 : ∀ (r : Fin 512) (k : Fin 128), p1_5 (ix3 (0 : Fin 1) r k) = A.o1 (at_ (num t) r) ⟨640 + k, by omega⟩)
    (h_p1_6 : ∀ (r : Fin 512) (k : Fin 128), p1_6 (ix3 (0 : Fin 1) r k) = A.o1 (at_ (num t) r) ⟨768 + k, by omega⟩)
    (h_p1_7 : ∀ (r : Fin 512) (k : Fin 128), p1_7 (ix3 (0 : Fin 1) r k) = A.o1 (at_ (num t) r) ⟨896 + k, by omega⟩)
    (h_wO : ∀ k l : Fin 1024, wO (ix2 k l) = A.wO k l)
    (h_x : ∀ (r : Fin 512) (l : Fin 1024), x (ix2 r l) = A.x (at_ (num t) r) l)
    (h_g1 : ∀ l : Fin 1024, g1 (ix2 (0 : Fin 1) l) = A.mod ⟨2048 + l, by omega⟩)
    (h_norm : ∀ l : Fin 1024, norm (ix2 (0 : Fin 1) l) = A.norm l)
    (h_shift : ∀ l : Fin 1024, shift (ix2 (0 : Fin 1) l) = A.mod ⟨3072 + l, by omega⟩)
    (h_scale : ∀ l : Fin 1024, scale (ix2 (0 : Fin 1) l) = A.mod ⟨4096 + l, by omega⟩)
    (h_wa : ∀ (k : Fin 1024) (j : Fin 2816), wa (ix3 (0 : Fin 1) k j) = A.wUp k ⟨j, by omega⟩)
    (h_wg : ∀ (k : Fin 1024) (j : Fin 2816), wg (ix3 (0 : Fin 1) k j) = A.wUp k ⟨2816 + j, by omega⟩)
    (h_c0 : ∀ j : Fin 2816, c0 (ix2 (0 : Fin 1) j) = A.padded (t.val * 512) j)
    (h_c1 : ∀ j : Fin 2816, c1 (ix2 (0 : Fin 1) j) = A.padded (t.val * 512 + 1) j)
    (h_cb : ∀ j : Fin 2816, cb (ix3 (0 : Fin 1) (0 : Fin 1) j) = A.convB j)
    (h_cw0 : ∀ j : Fin 2816, cw0 (ix3 (0 : Fin 1) (0 : Fin 1) j) = A.convW 0 j)
    (h_cw1 : ∀ j : Fin 2816, cw1 (ix3 (0 : Fin 1) (0 : Fin 1) j) = A.convW 1 j)
    (h_cw2 : ∀ j : Fin 2816, cw2 (ix3 (0 : Fin 1) (0 : Fin 1) j) = A.convW 2 j)
    (h_wd : ∀ (k : Fin 2816) (l : Fin 1024), wd (ix3 (0 : Fin 1) k l) = A.wDown k l)
    (h_g2 : ∀ l : Fin 1024, g2 (ix2 (0 : Fin 1) l) = A.mod ⟨5120 + l, by omega⟩)
    (h_fg : ∀ l : Fin 1024, fg (ix2 (0 : Fin 1) l) = A.last l) :
    ∃ O : Block.Ops, O.Agree A (num t) ∧ Q O :=
  ⟨_, ⟨⟨h_s1,
    fun r k => (strips4_eq _ M4 hM4 r k).trans ((H.s4 _ _ k).trans (congrArg (A.s4 · k) (planar_eq t r))),
    fun r k => (strips16_eq _ M16 hM16 r k).trans ((H.s16 _ _ k).trans (congrArg (A.s16 · k) (planar_eq t r))),
    h_sp1,
    h_sp4⟩,
    fun r k => (chunk16_eq _ L16 hS16 0 0 rfl _ r k).trans ((H.o16 _ _ _).trans (congrArg (A.o16 · _) (planar_eq t r))),
    fun r k => (chunk16_eq _ L16 hS16 1 128 rfl _ r k).trans ((H.o16 _ _ _).trans (congrArg (A.o16 · _) (planar_eq t r))),
    fun r k => (chunk16_eq _ L16 hS16 2 256 rfl _ r k).trans ((H.o16 _ _ _).trans (congrArg (A.o16 · _) (planar_eq t r))),
    fun r k => (chunk16_eq _ L16 hS16 3 384 rfl _ r k).trans ((H.o16 _ _ _).trans (congrArg (A.o16 · _) (planar_eq t r))),
    fun r k => (chunk16_eq _ L16 hS16 4 512 rfl _ r k).trans ((H.o16 _ _ _).trans (congrArg (A.o16 · _) (planar_eq t r))),
    fun r k => (chunk16_eq _ L16 hS16 5 640 rfl _ r k).trans ((H.o16 _ _ _).trans (congrArg (A.o16 · _) (planar_eq t r))),
    fun r k => (chunk16_eq _ L16 hS16 6 768 rfl _ r k).trans ((H.o16 _ _ _).trans (congrArg (A.o16 · _) (planar_eq t r))),
    fun r k => (chunk16_eq _ L16 hS16 7 896 rfl _ r k).trans ((H.o16 _ _ _).trans (congrArg (A.o16 · _) (planar_eq t r))),
    h_p1_0,
    h_p1_1,
    h_p1_2,
    h_p1_3,
    h_p1_4,
    h_p1_5,
    h_p1_6,
    h_p1_7,
    fun r k => (chunk4_eq _ L4 hS4 0 0 rfl _ r k).trans ((H.o4 _ _ _).trans (congrArg (A.o4 · _) (planar_eq t r))),
    fun r k => (chunk4_eq _ L4 hS4 1 128 rfl _ r k).trans ((H.o4 _ _ _).trans (congrArg (A.o4 · _) (planar_eq t r))),
    fun r k => (chunk4_eq _ L4 hS4 2 256 rfl _ r k).trans ((H.o4 _ _ _).trans (congrArg (A.o4 · _) (planar_eq t r))),
    fun r k => (chunk4_eq _ L4 hS4 3 384 rfl _ r k).trans ((H.o4 _ _ _).trans (congrArg (A.o4 · _) (planar_eq t r))),
    fun r k => (chunk4_eq _ L4 hS4 4 512 rfl _ r k).trans ((H.o4 _ _ _).trans (congrArg (A.o4 · _) (planar_eq t r))),
    fun r k => (chunk4_eq _ L4 hS4 5 640 rfl _ r k).trans ((H.o4 _ _ _).trans (congrArg (A.o4 · _) (planar_eq t r))),
    fun r k => (chunk4_eq _ L4 hS4 6 768 rfl _ r k).trans ((H.o4 _ _ _).trans (congrArg (A.o4 · _) (planar_eq t r))),
    fun r k => (chunk4_eq _ L4 hS4 7 896 rfl _ r k).trans ((H.o4 _ _ _).trans (congrArg (A.o4 · _) (planar_eq t r))),
    h_wO,
    h_x,
    h_g1,
    h_norm,
    h_shift,
    h_scale,
    h_wa,
    h_wg,
    h_c0,
    h_c1,
    h_cb,
    h_cw0,
    h_cw1,
    h_cw2,
    h_wd,
    h_g2,
    h_fg⟩, hQ⟩

/-- A plane's slab as it is stored. -/
theorem plane_apply (v : FVec Ideal S1x32x128 .bf16) (n : Fin 32) (l : Fin 128) : k0_pay3 (F := Ideal) v (ix3 (0 : Fin 1) n l) = v (ix3 (0 : Fin 1) n l) := by
  pointwise [k0_pay3]

/-- A plane's statistics as they are stored. -/
theorem strip_apply (v : FVec Ideal S1x32x128 .f32) (n : Fin 32) (l : Fin 128) : k0_pay20 (F := Ideal) v (ix2 n l) = v (ix3 (0 : Fin 1) n l) := by
  pointwise [k0_pay20]

/-- A slab's rows as the store of a plane takes them, read from the block. -/
theorem plane_read (B : Vec Ideal S16x32x1024 .bf16) (q b : ℕ) (inb : ∀ a, (![q, 0, b] : Fin 3 → ℕ) a + (![1, 32, 128] : Fin 3 → ℕ) a ≤ S16x32x1024.size a) (n : Fin 32) (l : Fin 128) :
    k0_pay3 (F := Ideal) (View.ld B (Rect.unit (s := S16x32x1024) ![q, 0, b] ![1, 32, 128] inb)) (ix3 (0 : Fin 1) n l)
      = B (ix3 (⟨q, inb 0⟩ : Fin 16) n (⟨b + l, Nat.lt_of_lt_of_le (Nat.add_lt_add_left l.isLt b) (inb 2)⟩ : Fin 1024)) := by
  refine (plane_apply _ n l).trans (congrArg B (funext fun a => Fin.ext ?_))
  match a with
  | ⟨0, _⟩ => exact (show q + 1 * 0 = q by omega)
  | ⟨1, _⟩ => exact (show 0 + 1 * n.val = n.val by omega)
  | ⟨2, _⟩ => exact (show b + 1 * l.val = b + l.val by omega)

/-- A plane's statistics as their store takes them, read from the block. -/
theorem strip_read (B : Vec Ideal S16x32x128 .f32) (q : ℕ) (inb : ∀ a, (![q, 0, 0] : Fin 3 → ℕ) a + (![1, 32, 128] : Fin 3 → ℕ) a ≤ S16x32x128.size a) (n : Fin 32) (l : Fin 128) :
    k0_pay20 (F := Ideal) (View.ld B (Rect.unit (s := S16x32x128) ![q, 0, 0] ![1, 32, 128] inb)) (ix2 n l) = B (ix3 (⟨q, inb 0⟩ : Fin 16) n l) := by
  refine (strip_apply _ n l).trans (congrArg B (funext fun a => Fin.ext ?_))
  match a with
  | ⟨0, _⟩ => exact (show q + 1 * 0 = q by omega)
  | ⟨1, _⟩ => exact (show 0 + 1 * n.val = n.val by omega)
  | ⟨2, _⟩ => exact (show 0 + 1 * l.val = l.val by omega)

end Cert.Merge.Point

end
-- ==== Proof.MergeFirst.lean ====
/-
  What the merge kernel leaves at the first grid point, read off its run.
-/
module

public import proofs.«01_k».proof.Proof.MergePoint

@[expose] public section

set_option maxRecDepth 16384

noncomputable section

namespace Cert.Merge.Point

open Idealize.ShloMosaic Idealize.ShloMosaic.TcCoe Idealize.SL.Sem
open Cert.Kernel3Ideal Cert.Kernel3Ideal.Gen
open Cert.Merge.Block (at_)

variable (m : (ℓ : Loc nD τ sig) → Buf (Elt Ideal) ℓ)

variable (A : Layer) (c : Dev nD)

set_option maxHeartbeats 4000000 in
/-- The first point, where the carry is zero. -/
theorem first (t : Fin cfg0.N) (h0 : t.val % 32 = 0) (H : Holds m A c t) :
    ∃ O : Block.Ops, O.Agree A (num t) ∧ (∀ (r : Fin 512) (l : Fin 1024), (outsAt0 m c t.val t.isLt).1 (ix2 r l) = O.out (ix2 r l))
      ∧ (∀ (a : Fin 2) (j : Fin 2816), (outsAt0 m c t.val t.isLt).2.1 (ix2 a j) = O.kept (ix2 a j))
      ∧ ∀ (a : Fin 2) (j : Fin 2816), (outsAt0 m c t.val t.isLt).2.2 (ix2 (⟨a, by omega⟩ : Fin 8) j) = O.kept (ix2 a j) := by
  apply exists_of m A c t H
  case hQ =>
    refine ⟨?out, ?tail, ?kept⟩
    case out =>
      intro r l
      rw [outsAt0_A m c t h0]
      frame_out
      simp only [Block.Ops.out, Block.Ops.mixed, Block.Ops.up, Block.Ops.h, Block.Ops.att, Block.Ops.share1, Block.Ops.share4]
      with_reducible rfl
    case tail =>
      intro a j
      rw [outsAt0_A m c t h0]
      frame_out
      refine (congrFun (View.readCov_cons_toLoadRect _ _ _ _) _).trans ?_
      simp only [Block.Ops.kept, Block.Ops.up, Block.Ops.att, Block.Ops.share1, Block.Ops.share4]
    case kept =>
      intro a j
      rw [outsAt0_A m c t h0]
      frame_out
      refine (canon_top _ _ _ _ (ix2 a j) fun d => ?_).trans ?_
      · match d with
        | ⟨0, _⟩ => exact (show a.val = 0 + 1 * a.val by omega)
        | ⟨1, _⟩ => exact (show j.val = 0 + 1 * j.val by omega)
      simp only [Block.Ops.kept, Block.Ops.up, Block.Ops.att, Block.Ops.share1, Block.Ops.share4]
  case hS4 =>
    repeat refine ⟨_, _, rfl, plane_read (iblk m c 3 t) _ _ _, ?_⟩
    rfl
  case hM4 =>
    repeat refine ⟨_, _, rfl, strip_read (iblk m c 4 t) _ _, ?_⟩
    rfl
  case hS16 =>
    repeat refine ⟨_, _, rfl, plane_read (iblk m c 5 t) _ _ _, ?_⟩
    rfl
  case hM16 =>
    repeat refine ⟨_, _, rfl, strip_read (iblk m c 6 t) _ _, ?_⟩
    rfl
  case h_s1 => intros; exact H.s1 _ _
  case h_sp1 => intros; exact H.spread _ _
  case h_sp4 => intros; exact H.spread _ _
  case h_p1_0 =>
    intros
    pointwise
    exact H.o1 _ _
  case h_p1_1 =>
    intros
    pointwise
    exact H.o1 _ _
  case h_p1_2 =>
    intros
    pointwise
    exact H.o1 _ _
  case h_p1_3 =>
    intros
    pointwise
    exact H.o1 _ _
  case h_p1_4 =>
    intros
    pointwise
    exact H.o1 _ _
  case h_p1_5 =>
    intros
    pointwise
    exact H.o1 _ _
  case h_p1_6 =>
    intros
    pointwise
    exact H.o1 _ _
  case h_p1_7 =>
    intros
    pointwise
    exact H.o1 _ _
  case h_wO => intros; exact H.wO _ _
  case h_x => intros; exact H.x _ _
  case h_g1 =>
    intros
    pointwise
    exact H.mod1 _
  case h_norm => intros; exact H.norm _
  case h_shift =>
    intros
    pointwise
    exact H.mod _
  case h_scale =>
    intros
    pointwise
    exact H.mod _
  case h_wa =>
    intros
    pointwise
    exact H.wUp _ _
  case h_wg =>
    intros
    pointwise
    exact H.wUp _ _
  case h_c0 =>
    intro j
    refine (congrFun (View.readCov_eq_canon' _ _ _) _).trans ?_
    refine (congrFun (View.canon_cons_unit_lit _ _ _ (by decide)) _).trans ?_
    pointwise [k0_pay2]
    exact (A.padded_lt _ (by have := (num t).isLt; simp only [num] at this; omega) j).symm
  case h_c1 =>
    intro j
    refine (congrFun (View.readCov_eq_canon' _ _ _) _).trans ?_
    refine (congrFun (View.canon_cons_unit_lit _ _ _ (by decide)) _).trans ?_
    pointwise [k0_pay2]
    exact (A.padded_lt _ (by have := (num t).isLt; simp only [num] at this; omega) j).symm
  case h_cb => intros; exact H.convB _
  case h_cw0 =>
    intros
    pointwise
    exact H.convW _ _
  case h_cw1 =>
    intros
    pointwise
    exact H.convW _ _
  case h_cw2 =>
    intros
    pointwise
    exact H.convW _ _
  case h_wd => intros; exact H.wDown _ _
  case h_g2 =>
    intros
    pointwise
    exact H.mod _
  case h_fg => intros; exact H.last _

end Cert.Merge.Point

end
-- ==== Proof.MergeLater.lean ====
/-
  What the merge kernel leaves at a grid point after the first, read off its run.
-/
module

public import proofs.«01_k».proof.Proof.MergePoint

@[expose] public section

set_option maxRecDepth 16384

noncomputable section

namespace Cert.Merge.Point

open Idealize.ShloMosaic Idealize.ShloMosaic.TcCoe Idealize.SL.Sem
open Cert.Kernel3Ideal Cert.Kernel3Ideal.Gen
open Cert.Merge.Block (at_)

variable (m : (ℓ : Loc nD τ sig) → Buf (Elt Ideal) ℓ)

variable (A : Layer) (c : Dev nD)

set_option maxHeartbeats 4000000 in
/-- A point after the first, where the carry holds the two rows before the block. -/
theorem later (t : Fin cfg0.N) (h0 : ¬ t.val % 32 = 0) (H : Holds m A c t)
    (hc : ∀ (a : Fin 2) (j : Fin 2816),
      (outsAt0 m c (t.val - 1) (Nat.lt_of_le_of_lt (Nat.sub_le _ _) t.isLt)).2.2 (ix2 (⟨a, by omega⟩ : Fin 8) j) = A.padded (t.val * 512 + a) j) :
    ∃ O : Block.Ops, O.Agree A (num t) ∧ (∀ (r : Fin 512) (l : Fin 1024), (outsAt0 m c t.val t.isLt).1 (ix2 r l) = O.out (ix2 r l))
      ∧ (∀ (a : Fin 2) (j : Fin 2816), (outsAt0 m c t.val t.isLt).2.1 (ix2 a j) = O.kept (ix2 a j))
      ∧ ∀ (a : Fin 2) (j : Fin 2816), (outsAt0 m c t.val t.isLt).2.2 (ix2 (⟨a, by omega⟩ : Fin 8) j) = O.kept (ix2 a j) := by
  apply exists_of m A c t H
  case hQ =>
    refine ⟨?out, ?tail, ?kept⟩
    case out =>
      intro r l
      rw [outsAt0_B m c t h0]
      frame_out
      simp only [Block.Ops.out, Block.Ops.mixed, Block.Ops.up, Block.Ops.h, Block.Ops.att, Block.Ops.share1, Block.Ops.share4]
      with_reducible rfl
    case tail =>
      intro a j
      rw [outsAt0_B m c t h0]
      frame_out
      refine (congrFun (View.readCov_cons_toLoadRect _ _ _ _) _).trans ?_
      simp only [Block.Ops.kept, Block.Ops.up, Block.Ops.att, Block.Ops.share1, Block.Ops.share4]
    case kept =>
      intro a j
      rw [outsAt0_B m c t h0]
      frame_out
      refine (View.read_writes_cons_hit_of_coords _ _ _ _ _ (ix2 a j) _ fun d => ?_).trans ?_
      · match d with
        | ⟨0, _⟩ => exact (show a.val = 0 + 1 * a.val by omega)
        | ⟨1, _⟩ => exact (show j.val = 0 + 1 * j.val by omega)
      simp only [Block.Ops.kept, Block.Ops.up, Block.Ops.att, Block.Ops.share1, Block.Ops.share4]
  case hS4 =>
    repeat refine ⟨_, _, rfl, plane_read (iblk m c 3 t) _ _ _, ?_⟩
    rfl
  case hM4 =>
    repeat refine ⟨_, _, rfl, strip_read (iblk m c 4 t) _ _, ?_⟩
    rfl
  case hS16 =>
    repeat refine ⟨_, _, rfl, plane_read (iblk m c 5 t) _ _ _, ?_⟩
    rfl
  case hM16 =>
    repeat refine ⟨_, _, rfl, strip_read (iblk m c 6 t) _ _, ?_⟩
    rfl
  case h_s1 => intros; exact H.s1 _ _
  case h_sp1 => intros; exact H.spread _ _
  case h_sp4 => intros; exact H.spread _ _
  case h_p1_0 =>
    intros
    pointwise
    exact H.o1 _ _
  case h_p1_1 =>
    intros
    pointwise
    exact H.o1 _ _
  case h_p1_2 =>
    intros
    pointwise
    exact H.o1 _ _
  case h_p1_3 =>
    intros
    pointwise
    exact H.o1 _ _
  case h_p1_4 =>
    intros
    pointwise
    exact H.o1 _ _
  case h_p1_5 =>
    intros
    pointwise
    exact H.o1 _ _
  case h_p1_6 =>
    intros
    pointwise
    exact H.o1 _ _
  case h_p1_7 =>
    intros
    pointwise
    exact H.o1 _ _
  case h_wO => intros; exact H.wO _ _
  case h_x => intros; exact H.x _ _
  case h_g1 =>
    intros
    pointwise
    exact H.mod1 _
  case h_norm => intros; exact H.norm _
  case h_shift =>
    intros
    pointwise
    exact H.mod _
  case h_scale =>
    intros
    pointwise
    exact H.mod _
  case h_wa =>
    intros
    pointwise
    exact H.wUp _ _
  case h_wg =>
    intros
    pointwise
    exact H.wUp _ _
  case h_c0 =>
    intro j
    rw [read_unread_whole]
    pointwise
    exact hc 0 j
  case h_c1 =>
    intro j
    rw [read_unread_whole]
    pointwise
    exact hc 1 j
  case h_cb => intros; exact H.convB _
  case h_cw0 =>
    intros
    pointwise
    exact H.convW _ _
  case h_cw1 =>
    intros
    pointwise
    exact H.convW _ _
  case h_cw2 =>
    intros
    pointwise
    exact H.convW _ _
  case h_wd => intros; exact H.wDown _ _
  case h_g2 =>
    intros
    pointwise
    exact H.mod _
  case h_fg => intros; exact H.last _

end Cert.Merge.Point

end
-- ==== Proof.MergeValue.lean ====
/-
  What the merge program leaves in its two results: the layer's output rows, and the last two rows of the gate that the next
  call's convolution starts from.
-/
module

public import proofs.«01_k».proof.Proof.MergeFirst
public import proofs.«01_k».proof.Proof.MergeLater

@[expose] public section

set_option maxRecDepth 16384

noncomputable section

namespace Cert.Merge.Point

open Idealize.ShloMosaic Idealize.ShloMosaic.TcCoe Idealize.SL.Sem
open Cert.Kernel3Ideal Cert.Kernel3Ideal.Gen Cert.Kernel3Ideal.Value
open Cert.Merge.Block (at_)

variable (m : (ℓ : Loc nD τ sig) → Buf (Elt Ideal) ℓ) (c : Dev nD) (D : (layer m c).Defined)

include D in
/-- At a grid point: its rows of the result, its last two gate rows written out, and the same two rows kept for the next point. -/
theorem point (n : ℕ) : ∀ h : n < cfg0.N,
    (∀ (r : Fin 512) (l : Fin 1024), (outsAt0 m c n h).1 (ix2 r l) = (layer m c).out (at_ (num ⟨n, h⟩) r) l)
      ∧ (∀ (a : Fin 2) (j : Fin 2816), (outsAt0 m c n h).2.1 (ix2 a j) = (layer m c).padded ((n + 1) * 512 + a) j)
      ∧ ∀ (a : Fin 2) (j : Fin 2816), (outsAt0 m c n h).2.2 (ix2 (⟨a, by omega⟩ : Fin 8) j) = (layer m c).padded ((n + 1) * 512 + a) j := by
  induction n with
  | zero =>
    intro h
    obtain ⟨O, hO, h₁, h₂, h₃⟩ := first m (layer m c) c ⟨0, h⟩ rfl (holds m c ⟨0, h⟩)
    exact ⟨fun r l => (h₁ r l).trans (hO.out_eq D r l), fun a j => (h₂ a j).trans (hO.kept_eq D a j), fun a j => (h₃ a j).trans (hO.kept_eq D a j)⟩
  | succ n ih =>
    intro h
    have hn : n + 1 < 32 := h
    obtain ⟨O, hO, h₁, h₂, h₃⟩ := later m (layer m c) c ⟨n + 1, h⟩ (by show ¬ (n + 1) % 32 = 0; omega) (holds m c ⟨n + 1, h⟩)
      (fun a j => (ih (by omega)).2.2 a j)
    exact ⟨fun r l => (h₁ r l).trans (hO.out_eq D r l), fun a j => (h₂ a j).trans (hO.kept_eq D a j), fun a j => (h₃ a j).trans (hO.kept_eq D a j)⟩

include D in
/-- The first result holds the layer's output, row by row. -/
theorem rows_eq : G17 m c = fun i : S16384x1024.Idx => (layer m c).out (i 0) (i 1) := by
  rw [← final17]
  refine (dats m 0 c).arrAt_eq_of_covers 17 _ (by decide +kernel) fun t _ y => ?_
  blk_simp
  rw [after0_17]
  idx_vars y
  have e : ((View.whole main_v35_0).slice (win0_17.rect t)).emb (ix2 y0 y1) = ix2 (at_ (num t) y0) y1 := by
    unfold at_ num
    blk_ext [idx t]
  rw [e]
  exact (point m c D t.val t.isLt).1 y0 y1

/-- The last grid point. -/
def final : Fin cfg0.N := ⟨31, by decide⟩

include D in
/-- The second result holds the gate's last two rows. -/
theorem tail_eq : G18 m c = fun i : S2x2816.Idx => (layer m c).padded (16384 + (i 0).val) (i 1) := by
  rw [← final18]
  refine (dats m 0 c).arrAt_eq_of_after_last 18 final (by decide +kernel) _ fun y => ?_
  blk_simp
  rw [after0_18]
  idx_vars y
  refine ((point m c D final.val final.isLt).2.1 y0 y1).trans ?_
  have e : (final.val + 1) * 512 = 16384 := rfl
  rw [e]

end Cert.Merge.Point

end
-- ==== Proof.MergeClaim.lean ====
/-
  The merge program and its reference leave the same two results on every device.
-/
module

public import proofs.«01_k».proof.Proof.Frames
public import proofs.«01_k».proof.Proof.MergeDefined
public import proofs.«01_k».proof.Proof.MergeRef
public import proofs.«01_k».proof.Proof.MergeValue

@[expose] public section

set_option maxRecDepth 16384

noncomputable section

namespace Cert.Merge

open Idealize.ShloMosaic Idealize.ShloMosaic.TcCoe Idealize.SL.Sem

section

open Cert.Kernel3Ideal

/-- The layer whose arrays are these buffers. -/
def ofArrays (a0 : FVec Ideal S1x16384x1024 .f32) (a1 : FVec Ideal S1x16384x1024 .f32) (a2 : FVec Ideal S1x16384x128 .f32) (a3 : FVec Ideal S1x16384x1024 .f32)
    (a4 : FVec Ideal S1x16384x128 .f32) (a5 : FVec Ideal S1x16384x1024 .f32) (a6 : FVec Ideal S1x16384x128 .f32) (a7 : FVec Ideal S1x6144 .f32)
    (a8 : FVec Ideal S1x1024x1024 .f32) (a9 : FVec Ideal S2x2x1024 .f32) (a10 : FVec Ideal S2x1024x5632 .f32) (a11 : FVec Ideal S2x3x2816 .f32)
    (a12 : FVec Ideal S2x2816 .f32) (a13 : FVec Ideal S2x2816x1024 .f32) (a14 : FVec Ideal S1024 .f32) : Layer where
  x r l := a0 (ix3 0 r l)
  o1 r l := a1 (ix3 0 r l)
  s1 r k := a2 (ix3 0 r k)
  o4 r l := a3 (ix3 0 r l)
  s4 r k := a4 (ix3 0 r k)
  o16 r l := a5 (ix3 0 r l)
  s16 r k := a6 (ix3 0 r k)
  mod l := a7 (ix2 0 l)
  wO k l := a8 (ix3 0 k l)
  norm l := a9 (ix3 1 1 l)
  wUp k j := a10 (ix3 1 k j)
  convW a j := a11 (ix3 1 a j)
  convB j := a12 (ix2 1 j)
  wDown k l := a13 (ix3 1 k l)
  last l := a14 (ix1 l)

theorem ofArrays_congr {a0 b0 : FVec Ideal S1x16384x1024 .f32} {a1 b1 : FVec Ideal S1x16384x1024 .f32} {a2 b2 : FVec Ideal S1x16384x128 .f32} {a3 b3 : FVec Ideal S1x16384x1024 .f32}
    {a4 b4 : FVec Ideal S1x16384x128 .f32} {a5 b5 : FVec Ideal S1x16384x1024 .f32} {a6 b6 : FVec Ideal S1x16384x128 .f32} {a7 b7 : FVec Ideal S1x6144 .f32}
    {a8 b8 : FVec Ideal S1x1024x1024 .f32} {a9 b9 : FVec Ideal S2x2x1024 .f32} {a10 b10 : FVec Ideal S2x1024x5632 .f32} {a11 b11 : FVec Ideal S2x3x2816 .f32}
    {a12 b12 : FVec Ideal S2x2816 .f32} {a13 b13 : FVec Ideal S2x2816x1024 .f32} {a14 b14 : FVec Ideal S1024 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    ofArrays a0 a1 a2 a3 a4 a5 a6 a7 a8 a9 a10 a11 a12 a13 a14 = ofArrays b0 b1 b2 b3 b4 b5 b6 b7 b8 b9 b10 b11 b12 b13 b14 := by
  subst h0 h1 h2 h3 h4 h5 h6 h7 h8 h9 h10 h11 h12 h13 h14
  rfl

end

/-- From equal arguments that meet the precondition the program and its reference leave equal results. -/
theorem claim : Cert.algebraic_Kernel3Ideal_Reference3Ideal_pre_merge_defined := by
  intro m g m' g' hp h
  have D : ∀ c : Dev Cert.Kernel3Ideal.nD, (Point.layer m c).Defined := fun c =>
    Pre.defined (Point.layer m c) _ _ _ _ _ _ _ _ _ _ _ _ _ _ _ (fun _ _ => rfl) (fun _ _ => rfl) (fun _ _ => rfl) (fun _ _ => rfl) (fun _ _ => rfl) (fun _ _ => rfl) (hp c)
  have e : ∀ c : Dev Cert.Kernel3Ideal.nD, Ref.layer (StableHlo.launchContents m' c) = Point.layer m c := fun c => by
    obtain ⟨h0, h1, h2, h3, h4, h5, h6, h7, h8, h9, h10, h11, h12, h13, h14⟩ := h c
    exact ofArrays_congr h0 h1 h2 h3 h4 h5 h6 h7 h8 h9 h10 h11 h12 h13 h14
  refine ⟨fun c => Cert.Kernel3Ideal.Value.G17 m c, fun c => Cert.Kernel3Ideal.Value.G18 m c, Cert.Kernel3Ideal.Value.run m g,
    (θ_run _ _ _).mono (fun r hr c => ⟨(hr c).1.trans ?_, (hr c).2.1.trans ?_, (hr c).2.2⟩) (Cert.Reference3Ideal.Value.run (F := Ideal) m' g')⟩
  · refine Eq.trans ?_ (Point.rows_eq m c (D c)).symm
    funext i
    idx_vars i
    exact (Ref.out_eq _ _ _).trans (by rw [e c])
  · refine Eq.trans ?_ (Point.tail_eq m c (D c)).symm
    funext i
    idx_vars i
    exact (Ref.tail_eq _ _ _).trans (by rw [e c])

end Cert.Merge

end
-- ==== Proof.lean ====
/-
  The proof of `Cert.Claim`: every program's frame, the preserved constants, and the values of the two calls.
-/
module

public import proofs.«01_k».proof.Defs
public import proofs.«01_k».proof.Proof.Frames
public import proofs.«01_k».proof.Proof.FfnClaim
public import proofs.«01_k».proof.Proof.MergeClaim

@[expose] public section

noncomputable section

namespace Cert.Proof

open Cert.Frames

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_merge_defined.Gen.facts,
    kernel2, kernel2Ideal, reference2Ideal, kernel3, kernel3Ideal, kernel3Ideal_defined, reference3Ideal, reference3Ideal_defined,
    preserves2, Cert.Ffn.claim, preserves3, Cert.Merge.claim⟩

end Cert.Proof

end
